-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1536 : Shape := ⟨3, ![4, 2048, 1536]⟩
abbrev S4x16384x768 : Shape := ⟨3, ![4, 16384, 768]⟩
abbrev S4x2048x24 : Shape := ⟨3, ![4, 2048, 24]⟩
abbrev S16x1536x768 : Shape := ⟨3, ![16, 1536, 768]⟩
abbrev S768 : Shape := ⟨1, ![768]⟩
abbrev S4x2048x6144 : Shape := ⟨3, ![4, 2048, 6144]⟩
abbrev S1x768 : Shape := ⟨2, ![1, 768]⟩
abbrev S1x1024x768 : Shape := ⟨3, ![1, 1024, 768]⟩
abbrev S1x1024x24 : Shape := ⟨3, ![1, 1024, 24]⟩
abbrev S1x1536x768 : Shape := ⟨3, ![1, 1536, 768]⟩
abbrev S1x1024x1536 : Shape := ⟨3, ![1, 1024, 1536]⟩
abbrev S1024x1536 : Shape := ⟨2, ![1024, 1536]⟩
abbrev S8x1536 : Shape := ⟨2, ![8, 1536]⟩
abbrev S1024x768 : Shape := ⟨2, ![1024, 768]⟩
abbrev S1024x24 : Shape := ⟨2, ![1024, 24]⟩
abbrev S24x768 : Shape := ⟨2, ![24, 768]⟩
abbrev S1536x768 : Shape := ⟨2, ![1536, 768]⟩
abbrev S1x1536 : Shape := ⟨2, ![1, 1536]⟩
abbrev S4x2047x1536 : Shape := ⟨3, ![4, 2047, 1536]⟩
abbrev S_ : Shape := ⟨0, ![]⟩
abbrev S8192x1536 : Shape := ⟨2, ![8192, 1536]⟩
abbrev S8192x6144 : Shape := ⟨2, ![8192, 6144]⟩
abbrev S8192x24 : Shape := ⟨2, ![8192, 24]⟩
abbrev S2x8x1536x768 : Shape := ⟨4, ![2, 8, 1536, 768]⟩
abbrev S2x1x1536x768 : Shape := ⟨4, ![2, 1, 1536, 768]⟩
abbrev S1x1x1536x768 : Shape := ⟨4, ![1, 1, 1536, 768]⟩

abbrev nBuf : Space → Nat
  | .hbm => 18
  | .vmem => 24
  | .smem => 0
  | _ => 0

abbrev bufTy : (tb : Table) → Fin (tcTables nBuf tb) → BufTy
  | .hbm, ⟨0, _⟩ => ⟨S4x2048x1536, .bf16⟩
  | .hbm, ⟨1, _⟩ => ⟨S4x16384x768, .fp8e5m2⟩
  | .hbm, ⟨2, _⟩ => ⟨S4x2048x24, .f32⟩
  | .hbm, ⟨3, _⟩ => ⟨S16x1536x768, .fp8e4m3⟩
  | .hbm, ⟨4, _⟩ => ⟨S768, .f32⟩
  | .hbm, ⟨5, _⟩ => ⟨S4x2048x6144, .fp8e5m2⟩
  | .hbm, ⟨6, _⟩ => ⟨S1x768, .f32⟩
  | .hbm, ⟨7, _⟩ => ⟨S4x2048x1536, .bf16⟩
  | .hbm, ⟨8, _⟩ => ⟨S4x2047x1536, .bf16⟩
  | .hbm, ⟨9, _⟩ => ⟨S_, .i32⟩
  | .hbm, ⟨10, _⟩ => ⟨S_, .bf16⟩
  | .hbm, ⟨11, _⟩ => ⟨S4x2048x1536, .bf16⟩
  | .hbm, ⟨12, _⟩ => ⟨S8192x1536, .bf16⟩
  | .hbm, ⟨13, _⟩ => ⟨S8192x1536, .bf16⟩
  | .hbm, ⟨14, _⟩ => ⟨S8192x6144, .fp8e5m2⟩
  | .hbm, ⟨15, _⟩ => ⟨S8192x24, .f32⟩
  | .hbm, ⟨16, _⟩ => ⟨S2x8x1536x768, .f32⟩
  | .hbm, ⟨17, _⟩ => ⟨S16x1536x768, .f32⟩
  | .local _ .vmem, ⟨0, _⟩ => ⟨S1x1024x768, .fp8e5m2⟩
  | .local _ .vmem, ⟨1, _⟩ => ⟨S1x1024x768, .fp8e5m2⟩
  | .local _ .vmem, ⟨2, _⟩ => ⟨S1x1024x24, .f32⟩
  | .local _ .vmem, ⟨3, _⟩ => ⟨S1x1024x24, .f32⟩
  | .local _ .vmem, ⟨4, _⟩ => ⟨S1x1536x768, .fp8e4m3⟩
  | .local _ .vmem, ⟨5, _⟩ => ⟨S1x1536x768, .fp8e4m3⟩
  | .local _ .vmem, ⟨6, _⟩ => ⟨S1x1536x768, .fp8e4m3⟩
  | .local _ .vmem, ⟨7, _⟩ => ⟨S1x1536x768, .fp8e4m3⟩
  | .local _ .vmem, ⟨8, _⟩ => ⟨S1x768, .f32⟩
  | .local _ .vmem, ⟨9, _⟩ => ⟨S1x1024x1536, .bf16⟩
  | .local _ .vmem, ⟨10, _⟩ => ⟨S1x1024x1536, .bf16⟩
  | .local _ .vmem, ⟨11, _⟩ => ⟨S1024x1536, .f32⟩
  | .local _ .vmem, ⟨12, _⟩ => ⟨S1024x1536, .f32⟩
  | .local _ .vmem, ⟨13, _⟩ => ⟨S8x1536, .f32⟩
  | .local _ .vmem, ⟨14, _⟩ => ⟨S1024x1536, .bf16⟩
  | .local _ .vmem, ⟨15, _⟩ => ⟨S1024x1536, .bf16⟩
  | .local _ .vmem, ⟨16, _⟩ => ⟨S1024x1536, .bf16⟩
  | .local _ .vmem, ⟨17, _⟩ => ⟨S1024x1536, .bf16⟩
  | .local _ .vmem, ⟨18, _⟩ => ⟨S1024x768, .fp8e5m2⟩
  | .local _ .vmem, ⟨19, _⟩ => ⟨S1024x768, .fp8e5m2⟩
  | .local _ .vmem, ⟨20, _⟩ => ⟨S1024x24, .f32⟩
  | .local _ .vmem, ⟨21, _⟩ => ⟨S1024x24, .f32⟩
  | .local _ .vmem, ⟨22, _⟩ => ⟨S2x1x1536x768, .f32⟩
  | .local _ .vmem, ⟨23, _⟩ => ⟨S2x1x1536x768, .f32⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v67 : BitVec 1 := Scalar.cmpi .eq arg2 c7_i32
  let v68 : BitVec 32 := Scalar.extui v67
  let c0_i32_29 : BitVec 32 := 0#32
  let v69 : BitVec 1 := Scalar.cmpi .ne v68 c0_i32_29
  v69

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c0_i32 : BitVec 32 := 0#32
  ![arg0.toNat, v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg1
  let c0_i32 : BitVec 32 := 0#32
  let c0_i32_0 : BitVec 32 := 0#32
  ![arg0.toNat, v0.toNat, c0_i32.toNat]

abbrev stage0_0 : Fin 2 → Memref sig .tc .vmem S1x1024x768 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1536x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1536x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S1024x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x768 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x24 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2x1x1536x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S4x2048x1536 : Shape := ⟨3, ![4, 2048, 1536]⟩
abbrev S4x16384x768 : Shape := ⟨3, ![4, 16384, 768]⟩
abbrev S4x2048x24 : Shape := ⟨3, ![4, 2048, 24]⟩
abbrev S16x1536x768 : Shape := ⟨3, ![16, 1536, 768]⟩
abbrev S768 : Shape := ⟨1, ![768]⟩
abbrev S4x2048x8x24x32 : Shape := ⟨5, ![4, 2048, 8, 24, 32]⟩
abbrev S4x2048x1x24x1 : Shape := ⟨5, ![4, 2048, 1, 24, 1]⟩
abbrev S4x2048x8x768 : Shape := ⟨4, ![4, 2048, 8, 768]⟩
abbrev S1x1x768 : Shape := ⟨3, ![1, 1, 768]⟩
abbrev S2x8x1536x768 : Shape := ⟨4, ![2, 8, 1536, 768]⟩
abbrev S4x2047x8x768 : Shape := ⟨4, ![4, 2047, 8, 768]⟩
abbrev S4x2047x1536 : Shape := ⟨3, ![4, 2047, 1536]⟩
abbrev S1x8x1536x768 : Shape := ⟨4, ![1, 8, 1536, 768]⟩
abbrev S8x1536x768 : Shape := ⟨3, ![8, 1536, 768]⟩
abbrev S_ : Shape := ⟨0, ![]⟩
abbrev S1 : Shape := ⟨1, ![1]⟩
abbrev S8x768x1536 : Shape := ⟨3, ![8, 768, 1536]⟩

abbrev nBuf : Space → Nat
  | .hbm => 38
  | .vmem => 4
  | .smem => 0
  | _ => 0

abbrev bufTy : (tb : Table) → Fin (tcTables nBuf tb) → BufTy
  | .hbm, ⟨0, _⟩ => ⟨S4x2048x1536, .bf16⟩
  | .hbm, ⟨1, _⟩ => ⟨S4x16384x768, .fp8e5m2⟩
  | .hbm, ⟨2, _⟩ => ⟨S4x2048x24, .f32⟩
  | .hbm, ⟨3, _⟩ => ⟨S16x1536x768, .fp8e4m3⟩
  | .hbm, ⟨4, _⟩ => ⟨S768, .f32⟩
  | .hbm, ⟨5, _⟩ => ⟨S4x16384x768, .bf16⟩
  | .hbm, ⟨6, _⟩ => ⟨S16x1536x768, .bf16⟩
  | .hbm, ⟨7, _⟩ => ⟨S4x2048x8x24x32, .bf16⟩
  | .hbm, ⟨8, _⟩ => ⟨S4x2048x24, .bf16⟩
  | .hbm, ⟨9, _⟩ => ⟨S4x2048x1x24x1, .bf16⟩
  | .hbm, ⟨10, _⟩ => ⟨S4x2048x8x24x32, .bf16⟩
  | .hbm, ⟨11, _⟩ => ⟨S4x2048x8x24x32, .bf16⟩
  | .hbm, ⟨12, _⟩ => ⟨S4x2048x8x768, .bf16⟩
  | .hbm, ⟨13, _⟩ => ⟨S768, .bf16⟩
  | .hbm, ⟨14, _⟩ => ⟨S1x1x768, .bf16⟩
  | .hbm, ⟨15, _⟩ => ⟨S16x1536x768, .bf16⟩
  | .hbm, ⟨16, _⟩ => ⟨S16x1536x768, .bf16⟩
  | .hbm, ⟨17, _⟩ => ⟨S2x8x1536x768, .bf16⟩
  | .hbm, ⟨18, _⟩ => ⟨S4x2047x8x768, .bf16⟩
  | .hbm, ⟨19, _⟩ => ⟨S4x2047x1536, .bf16⟩
  | .hbm, ⟨20, _⟩ => ⟨S1x8x1536x768, .bf16⟩
  | .hbm, ⟨21, _⟩ => ⟨S8x1536x768, .bf16⟩
  | .hbm, ⟨22, _⟩ => ⟨S4x2048x1536, .f32⟩
  | .hbm, ⟨23, _⟩ => ⟨S1x8x1536x768, .bf16⟩
  | .hbm, ⟨24, _⟩ => ⟨S8x1536x768, .bf16⟩
  | .hbm, ⟨25, _⟩ => ⟨S4x2047x1536, .f32⟩
  | .hbm, ⟨26, _⟩ => ⟨S_, .i32⟩
  | .hbm, ⟨27, _⟩ => ⟨S1, .i32⟩
  | .hbm, ⟨28, _⟩ => ⟨S4x2048x1536, .f32⟩
  | .hbm, ⟨29, _⟩ => ⟨S4x2048x1536, .bf16⟩
  | .hbm, ⟨30, _⟩ => ⟨S8x768x1536, .f32⟩
  | .hbm, ⟨31, _⟩ => ⟨S8x1536x768, .f32⟩
  | .hbm, ⟨32, _⟩ => ⟨S8x768x1536, .f32⟩
  | .hbm, ⟨33, _⟩ => ⟨S8x1536x768, .f32⟩
  | .hbm, ⟨34, _⟩ => ⟨S1x8x1536x768, .f32⟩
  | .hbm, ⟨35, _⟩ => ⟨S1x8x1536x768, .f32⟩
  | .hbm, ⟨36, _⟩ => ⟨S2x8x1536x768, .f32⟩
  | .hbm, ⟨37, _⟩ => ⟨S16x1536x768, .f32⟩
  | .local _ .vmem, ⟨0, _⟩ => ⟨S4x16384x768, .fp8e5m2⟩
  | .local _ .vmem, ⟨1, _⟩ => ⟨S16x1536x768, .fp8e4m3⟩
  | .local _ .vmem, ⟨2, _⟩ => ⟨S4x16384x768, .bf16⟩
  | .local _ .vmem, ⟨3, _⟩ => ⟨S16x1536x768, .bf16⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x16384x768 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1536x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16384x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1536x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.DxRuns.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of a rank-two rectangle. -/
theorem hz2 : (![0, 0] : Fin 2 → Nat) = fun _ => 0 := funext fun a => by fin_cases a <;> rfl
/-- Zero offsets of a rank-three rectangle. -/
theorem hz3 : (![0, 0, 0] : Fin 3 → Nat) = fun _ => 0 := funext fun a => by fin_cases a <;> rfl

/-- The condition of the dx body's first conditional: the point is the first of its row of eight. -/
abbrev cond0_0 (i : grid0.Coords) : Prop := (Scalar.cmpi .ne (Scalar.extui (Scalar.cmpi .eq (BitVec.ofNat 32 (i 2).val) 0#32)) 0#32) = 1#1
/-- It holds at the points that are 0 modulo 8. -/
theorem hcond0_0 (t : Fin cfg0.N) : cond0_0 (grid0.coords t) ↔ t.val % 8 = 0 := by
    have ht : t.val < 64 := Nat.lt_of_lt_of_eq t.isLt N_0
    have e0 : (grid0.coords t 0).val = t.val / 16 % 4 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_0, e0, e1, e2]
    word_cmp

/-- The condition of its second conditional: the point is the last of its row of eight. -/
abbrev cond0_1 (i : grid0.Coords) : Prop := k0_cond2 i = 1#1
/-- It holds at the points that are 7 modulo 8. -/
theorem hcond0_1 (t : Fin cfg0.N) : cond0_1 (grid0.coords t) ↔ t.val % 8 = 7 := by
    have ht : t.val < 64 := Nat.lt_of_lt_of_eq t.isLt N_0
    have e0 : (grid0.coords t 0).val = t.val / 16 % 4 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_1, k0_cond2, e0, e1, e2]
    word_cmp

/-- The condition of its third conditional: the first row block of a batch entry. -/
abbrev cond0_2 (i : grid0.Coords) : Prop := (Scalar.cmpi .ne (Scalar.extui (Scalar.cmpi .eq (BitVec.ofNat 32 (i 1).val) 0#32)) 0#32) = 1#1
/-- It holds at the points of an even group of eight. -/
theorem hcond0_2 (t : Fin cfg0.N) : cond0_2 (grid0.coords t) ↔ t.val / 8 % 2 = 0 := by
    have ht : t.val < 64 := Nat.lt_of_lt_of_eq t.isLt N_0
    have e0 : (grid0.coords t 0).val = t.val / 16 % 4 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_2, e0, e1, e2]
    word_cmp

/-- The carry's first row, as the dx body loads it. -/
abbrev row0 (x : Vec F S8x1536 .f32) : Vec F S1x1536 .f32 :=
  View.ld x (Rect.unit (s := S8x1536) ![0, 0] S1x1536.size inb_S8x1536_S1x1536_0_0)

/-- After a store of a whole shape through the rectangle at zero offsets, a view reads the stored vector. -/
theorem read_writes_unit_zero {Val : EltTy → Type} [∀ e, Nonempty (Val e)] {sg : RefSig} {κ : Kind} {sp : Space} {S : Shape} {e : EltTy}
    {v : View sg κ sp S e} {f : v.ty.Contents Val} {off : Fin S.rank → Nat} (h : off = fun _ => 0)
    {inb : ∀ a, off a + S.size a ≤ S.size a} {w : S.Idx → Val e} {L : List (View.Piece Val S e)} :
    v.read Val (v.writes Val f ((⟨Rect.unit off S.size inb, w⟩ : View.Piece Val S e) :: L)) = w := by
  rw [View.read_writes_eq_canon v f _ (fun y => ⟨_, List.mem_cons_self .., View.mem_set_unit_zero h inb y⟩), View.canon_cons_unit_zero h]

/-- A load of the first row of the carry right after the whole carry was stored reads the stored vector's first row. -/
theorem rc8 (v : View sig .tc .vmem S8x1536 .f32) (w : Vec F S8x1536 .f32) (L : List (View.Piece (Elt F) S8x1536 .f32)) :
    v.readCov (Val := Elt F) ((⟨Rect.unit ![0, 0] S8x1536.size inb_S8x1536_S8x1536_0_0, w⟩ : View.Piece (Elt F) S8x1536 .f32) :: L) (Rect.unit (s := S8x1536) ![0, 0] S1x1536.size inb_S8x1536_S1x1536_0_0).toLoadRect = row0 w := by
  rw [View.readCov_eq_canon', View.canon_cons_unit_zero (S := S8x1536) hz2]; rfl

set_option maxHeartbeats 1000000 in
/-- The dx body at the first point of a row: it zeroes both accumulators, adds the point's two products, and leaves the output block and the carry as found. -/
theorem dxRun_A (c : Dev nD) (i : grid0.Coords) (arg3 : Memref sig .tc .vmem S1x1024x768 .fp8e5m2) (harg3 : arg3.IsWhole) (arg4 : Memref sig .tc .vmem S1x1024x24 .f32) (harg4 : arg4.IsWhole) (arg5 : Memref sig .tc .vmem S1x1536x768 .fp8e4m3) (harg5 : arg5.IsWhole) (arg6 : Memref sig .tc .vmem S1x1536x768 .fp8e4m3) (harg6 : arg6.IsWhole) (arg7 : Memref sig .tc .vmem S1x768 .f32) (harg7 : arg7.IsWhole) (arg8 : Memref sig .tc .vmem S1x1024x1536 .bf16) (harg8 : arg8.IsWhole) (arg9 : Memref sig .tc .vmem S1024x1536 .f32) (harg9 : arg9.IsWhole) (arg10 : Memref sig .tc .vmem S1024x1536 .f32) (harg10 : arg10.IsWhole) (arg11 : Memref sig .tc .vmem S8x1536 .f32) (harg11 : arg11.IsWhole) (hc0 : cond0_0 i) (hc1 : ¬cond0_1 i)
    (x0 : Vec F S1x1024x768 .fp8e5m2) (x1 : Vec F S1x1024x24 .f32) (x2 : Vec F S1x1536x768 .fp8e4m3) (x3 : Vec F S1x1536x768 .fp8e4m3) (x4 : Vec F S1x768 .f32) (xo : Vec F S1x1024x1536 .bf16) (xs0 : Vec F S1024x1536 .f32) (xs1 : Vec F S1024x1536 .f32) (xs2 : Vec F S8x1536 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (xs0) ∗ owns (c : Thread nD τ) arg10 fullShare (xs1) ∗ owns (c : Thread nD τ) arg11 fullShare (xs2)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (k0_pay4 (k0_pay9 x0 x1) (k0_pay10 x4) k0_pay2 x2) ∗ owns (c : Thread nD τ) arg10 fullShare (k0_pay5 (k0_pay9 x0 x1) (k0_pay10 x4) k0_pay3 x3) ∗ owns (c : Thread nD τ) arg11 fullShare (xs2)) -∗ K ⟨⟩))
          ⊢ wp frame (wpE (defs₀ (F := F)) Variants.none c none) E (cc0_dx i arg3 harg3 arg4 harg4 arg5 harg5 arg6 harg6 arg7 harg7 arg8 harg8 arg9 harg9 arg10 harg10 arg11 harg11) K := by
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; swap; · iexact HS0
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS1]
    · iexists _; isplitr; swap; · iexact HS1
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    · iexists _; isplitr; · ipureintro; exact harg11.read_unread _
      iexact HS2

set_option maxHeartbeats 1000000 in
/-- The dx body at a middle point of a row: it adds the point's two products to the accumulators, and leaves the output block and the carry as found. -/
theorem dxRun_B (c : Dev nD) (i : grid0.Coords) (arg3 : Memref sig .tc .vmem S1x1024x768 .fp8e5m2) (harg3 : arg3.IsWhole) (arg4 : Memref sig .tc .vmem S1x1024x24 .f32) (harg4 : arg4.IsWhole) (arg5 : Memref sig .tc .vmem S1x1536x768 .fp8e4m3) (harg5 : arg5.IsWhole) (arg6 : Memref sig .tc .vmem S1x1536x768 .fp8e4m3) (harg6 : arg6.IsWhole) (arg7 : Memref sig .tc .vmem S1x768 .f32) (harg7 : arg7.IsWhole) (arg8 : Memref sig .tc .vmem S1x1024x1536 .bf16) (harg8 : arg8.IsWhole) (arg9 : Memref sig .tc .vmem S1024x1536 .f32) (harg9 : arg9.IsWhole) (arg10 : Memref sig .tc .vmem S1024x1536 .f32) (harg10 : arg10.IsWhole) (arg11 : Memref sig .tc .vmem S8x1536 .f32) (harg11 : arg11.IsWhole) (hc0 : ¬cond0_0 i) (hc1 : ¬cond0_1 i)
    (x0 : Vec F S1x1024x768 .fp8e5m2) (x1 : Vec F S1x1024x24 .f32) (x2 : Vec F S1x1536x768 .fp8e4m3) (x3 : Vec F S1x1536x768 .fp8e4m3) (x4 : Vec F S1x768 .f32) (xo : Vec F S1x1024x1536 .bf16) (xs0 : Vec F S1024x1536 .f32) (xs1 : Vec F S1024x1536 .f32) (xs2 : Vec F S8x1536 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (xs0) ∗ owns (c : Thread nD τ) arg10 fullShare (xs1) ∗ owns (c : Thread nD τ) arg11 fullShare (xs2)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (k0_pay4 (k0_pay9 x0 x1) (k0_pay10 x4) xs0 x2) ∗ owns (c : Thread nD τ) arg10 fullShare (k0_pay5 (k0_pay9 x0 x1) (k0_pay10 x4) xs1 x3) ∗ owns (c : Thread nD τ) arg11 fullShare (xs2)) -∗ K ⟨⟩))
          ⊢ wp frame (wpE (defs₀ (F := F)) Variants.none c none) E (cc0_dx i arg3 harg3 arg4 harg4 arg5 harg5 arg6 harg6 arg7 harg7 arg8 harg8 arg9 harg9 arg10 harg10 arg11 harg11) K := by
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; swap; · iexact HS0
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS1]
    · iexists _; isplitr; swap; · iexact HS1
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    · iexists _; isplitr; · ipureintro; exact harg11.read_unread _
      iexact HS2

set_option maxHeartbeats 1000000 in
/-- The dx body at the last point of a row in the first row block of a batch entry: the carry is zeroed, the output block is written, and the carry becomes the second accumulator's first rows. -/
theorem dxRun_C (c : Dev nD) (i : grid0.Coords) (arg3 : Memref sig .tc .vmem S1x1024x768 .fp8e5m2) (harg3 : arg3.IsWhole) (arg4 : Memref sig .tc .vmem S1x1024x24 .f32) (harg4 : arg4.IsWhole) (arg5 : Memref sig .tc .vmem S1x1536x768 .fp8e4m3) (harg5 : arg5.IsWhole) (arg6 : Memref sig .tc .vmem S1x1536x768 .fp8e4m3) (harg6 : arg6.IsWhole) (arg7 : Memref sig .tc .vmem S1x768 .f32) (harg7 : arg7.IsWhole) (arg8 : Memref sig .tc .vmem S1x1024x1536 .bf16) (harg8 : arg8.IsWhole) (arg9 : Memref sig .tc .vmem S1024x1536 .f32) (harg9 : arg9.IsWhole) (arg10 : Memref sig .tc .vmem S1024x1536 .f32) (harg10 : arg10.IsWhole) (arg11 : Memref sig .tc .vmem S8x1536 .f32) (harg11 : arg11.IsWhole) (hc0 : ¬cond0_0 i) (hc1 : cond0_1 i) (hc2 : cond0_2 i)
    (x0 : Vec F S1x1024x768 .fp8e5m2) (x1 : Vec F S1x1024x24 .f32) (x2 : Vec F S1x1536x768 .fp8e4m3) (x3 : Vec F S1x1536x768 .fp8e4m3) (x4 : Vec F S1x768 .f32) (xo : Vec F S1x1024x1536 .bf16) (xs0 : Vec F S1024x1536 .f32) (xs1 : Vec F S1024x1536 .f32) (xs2 : Vec F S8x1536 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (xs0) ∗ owns (c : Thread nD τ) arg10 fullShare (xs1) ∗ owns (c : Thread nD τ) arg11 fullShare (xs2)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay7 (k0_pay5 (k0_pay9 x0 x1) (k0_pay10 x4) xs1 x3) (row0 k0_pay6) (k0_pay4 (k0_pay9 x0 x1) (k0_pay10 x4) xs0 x2)) ∗ owns (c : Thread nD τ) arg9 fullShare (k0_pay4 (k0_pay9 x0 x1) (k0_pay10 x4) xs0 x2) ∗ owns (c : Thread nD τ) arg10 fullShare (k0_pay5 (k0_pay9 x0 x1) (k0_pay10 x4) xs1 x3) ∗ owns (c : Thread nD τ) arg11 fullShare (k0_pay8 (k0_pay5 (k0_pay9 x0 x1) (k0_pay10 x4) xs1 x3))) -∗ K ⟨⟩))
          ⊢ wp frame (wpE (defs₀ (F := F)) Variants.none c none) E (cc0_dx i arg3 harg3 arg4 harg4 arg5 harg5 arg6 harg6 arg7 harg7 arg8 harg8 arg9 harg9 arg10 harg10 arg11 harg11) K := by
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      sl_unfold_words
      rw [read_writes_unit_zero (S := S1x1024x1536) hz3]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS0]
    · iexists _; isplitr; swap; · iexact HS0
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS1]
    · iexists _; isplitr; swap; · iexact HS1
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    · iexists _; isplitr; swap; · iexact HS2
      ipureintro
      sl_unfold_words
      rw [read_writes_unit_zero (S := S8x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)

set_option maxHeartbeats 1000000 in
/-- The dx body at the last point of a row in the second row block: the output block is written with the carry found, and the carry becomes the second accumulator's first rows. -/
theorem dxRun_D (c : Dev nD) (i : grid0.Coords) (arg3 : Memref sig .tc .vmem S1x1024x768 .fp8e5m2) (harg3 : arg3.IsWhole) (arg4 : Memref sig .tc .vmem S1x1024x24 .f32) (harg4 : arg4.IsWhole) (arg5 : Memref sig .tc .vmem S1x1536x768 .fp8e4m3) (harg5 : arg5.IsWhole) (arg6 : Memref sig .tc .vmem S1x1536x768 .fp8e4m3) (harg6 : arg6.IsWhole) (arg7 : Memref sig .tc .vmem S1x768 .f32) (harg7 : arg7.IsWhole) (arg8 : Memref sig .tc .vmem S1x1024x1536 .bf16) (harg8 : arg8.IsWhole) (arg9 : Memref sig .tc .vmem S1024x1536 .f32) (harg9 : arg9.IsWhole) (arg10 : Memref sig .tc .vmem S1024x1536 .f32) (harg10 : arg10.IsWhole) (arg11 : Memref sig .tc .vmem S8x1536 .f32) (harg11 : arg11.IsWhole) (hc0 : ¬cond0_0 i) (hc1 : cond0_1 i) (hc2 : ¬cond0_2 i)
    (x0 : Vec F S1x1024x768 .fp8e5m2) (x1 : Vec F S1x1024x24 .f32) (x2 : Vec F S1x1536x768 .fp8e4m3) (x3 : Vec F S1x1536x768 .fp8e4m3) (x4 : Vec F S1x768 .f32) (xo : Vec F S1x1024x1536 .bf16) (xs0 : Vec F S1024x1536 .f32) (xs1 : Vec F S1024x1536 .f32) (xs2 : Vec F S8x1536 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (xs0) ∗ owns (c : Thread nD τ) arg10 fullShare (xs1) ∗ owns (c : Thread nD τ) arg11 fullShare (xs2)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay7 (k0_pay5 (k0_pay9 x0 x1) (k0_pay10 x4) xs1 x3) (row0 xs2) (k0_pay4 (k0_pay9 x0 x1) (k0_pay10 x4) xs0 x2)) ∗ owns (c : Thread nD τ) arg9 fullShare (k0_pay4 (k0_pay9 x0 x1) (k0_pay10 x4) xs0 x2) ∗ owns (c : Thread nD τ) arg10 fullShare (k0_pay5 (k0_pay9 x0 x1) (k0_pay10 x4) xs1 x3) ∗ owns (c : Thread nD τ) arg11 fullShare (k0_pay8 (k0_pay5 (k0_pay9 x0 x1) (k0_pay10 x4) xs1 x3))) -∗ K ⟨⟩))
          ⊢ wp frame (wpE (defs₀ (F := F)) Variants.none c none) E (cc0_dx i arg3 harg3 arg4 harg4 arg5 harg5 arg6 harg6 arg7 harg7 arg8 harg8 arg9 harg9 arg10 harg10 arg11 harg11) K := by
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      sl_unfold_words
      rw [read_writes_unit_zero (S := S1x1024x1536) hz3]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS0]
    · iexists _; isplitr; swap; · iexact HS0
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS1]
    · iexists _; isplitr; swap; · iexact HS1
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    · iexists _; isplitr; swap; · iexact HS2
      ipureintro
      sl_unfold_words
      rw [read_writes_unit_zero (S := S8x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)

end Cert.Kernel.Gen

end
-- ==== Proof.Kernel.Dx.lean ====
module

public import proofs.«01_k».proof.Proof.Kernel.DxRuns
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the dx region finds it. -/
def xblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, for any proof data over these arrays that leave it in place. -/
theorem before0_0_of {c : Dev nD} (dat : Dat τ (Elt F) Unit ℕ (UR sig nD τ) ℕ cfg0 c) (hA : dat.A 0 = V c (Pipeline.arrRef spec0 0))
    (hafter : ∀ t, dat.after 0 t = xblk V c 0 t) (t : Fin cfg0.N) (d) : dat.before 0 t d = xblk V c 0 t :=
  (dat.before_in_eq_fetched 0 rfl (fun _ => rfl) (fun _ _ _ => rfl) (fun t => by rw [hafter]; unfold Dat.blockOf xblk; rw [hA]; try rfl) t d).trans
    (by unfold Dat.fetched Dat.blockOf xblk; rw [hA]; try rfl)
/-- Input window 1 holds its block at every point, for any proof data over these arrays that leave it in place. -/
theorem before0_1_of {c : Dev nD} (dat : Dat τ (Elt F) Unit ℕ (UR sig nD τ) ℕ cfg0 c) (hA : dat.A 1 = V c (Pipeline.arrRef spec0 1))
    (hafter : ∀ t, dat.after 1 t = xblk V c 1 t) (t : Fin cfg0.N) (d) : dat.before 1 t d = xblk V c 1 t :=
  (dat.before_in_eq_fetched 1 rfl (fun _ => rfl) (fun _ _ _ => rfl) (fun t => by rw [hafter]; unfold Dat.blockOf xblk; rw [hA]; try rfl) t d).trans
    (by unfold Dat.fetched Dat.blockOf xblk; rw [hA]; try rfl)
/-- Input window 2 holds its block at every point, for any proof data over these arrays that leave it in place. -/
theorem before0_2_of {c : Dev nD} (dat : Dat τ (Elt F) Unit ℕ (UR sig nD τ) ℕ cfg0 c) (hA : dat.A 2 = V c (Pipeline.arrRef spec0 2))
    (hafter : ∀ t, dat.after 2 t = xblk V c 2 t) (t : Fin cfg0.N) (d) : dat.before 2 t d = xblk V c 2 t :=
  (dat.before_in_eq_fetched 2 rfl (fun _ => rfl) (fun _ _ _ => rfl) (fun t => by rw [hafter]; unfold Dat.blockOf xblk; rw [hA]; try rfl) t d).trans
    (by unfold Dat.fetched Dat.blockOf xblk; rw [hA]; try rfl)
/-- Input window 3 holds its block at every point, for any proof data over these arrays that leave it in place. -/
theorem before0_3_of {c : Dev nD} (dat : Dat τ (Elt F) Unit ℕ (UR sig nD τ) ℕ cfg0 c) (hA : dat.A 3 = V c (Pipeline.arrRef spec0 3))
    (hafter : ∀ t, dat.after 3 t = xblk V c 3 t) (t : Fin cfg0.N) (d) : dat.before 3 t d = xblk V c 3 t :=
  (dat.before_in_eq_fetched 3 rfl (fun _ => rfl) (fun _ _ _ => rfl) (fun t => by rw [hafter]; unfold Dat.blockOf xblk; rw [hA]; try rfl) t d).trans
    (by unfold Dat.fetched Dat.blockOf xblk; rw [hA]; try rfl)
/-- Input window 4 holds its block at every point, for any proof data over these arrays that leave it in place. -/
theorem before0_4_of {c : Dev nD} (dat : Dat τ (Elt F) Unit ℕ (UR sig nD τ) ℕ cfg0 c) (hA : dat.A 4 = V c (Pipeline.arrRef spec0 4))
    (hafter : ∀ t, dat.after 4 t = xblk V c 4 t) (t : Fin cfg0.N) (d) : dat.before 4 t d = xblk V c 4 t :=
  (dat.before_in_eq_fetched 4 rfl (fun _ => rfl) (fun _ _ _ => rfl) (fun t => by rw [hafter]; unfold Dat.blockOf xblk; rw [hA]; try rfl) t d).trans
    (by unfold Dat.fetched Dat.blockOf xblk; rw [hA]; try rfl)
abbrev ms0_0 (t : Fin cfg0.N) : Memref sig .tc .vmem S1x1024x768 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x24 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536x768 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536x768 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1536 .bf16 := win0_5.stage (cfg0.slots t 5)
abbrev hs0_5 (t : Fin cfg0.N) : (ms0_5 t).IsWhole := hstage0_5 ((cfg0.slots t 5).cast nbuf0_5)
/-- The scratch operands: the two accumulators and the carry. -/
abbrev scM0_0 : Memref sig .tc .vmem S1024x1536 .f32 := Memref.whole cc0_scratch0
abbrev scM0_1 : Memref sig .tc .vmem S1024x1536 .f32 := Memref.whole cc0_scratch1
abbrev scM0_2 : Memref sig .tc .vmem S8x1536 .f32 := Memref.whole cc0_scratch2

/-! ## What the body computes, point by point -/

/-- The gradient block of a point, dequantised. -/
def gOf (c : Dev nD) (t : Fin cfg0.N) : FVec F S1024x768 .bf16 := k0_pay9 (xblk V c 0 t) (xblk V c 1 t)
/-- The weight scales of a point. -/
def wsOf (c : Dev nD) (t : Fin cfg0.N) : FVec F S1x768 .f32 := k0_pay10 (xblk V c 4 t)

/-- The first accumulator after point `n`: zeroed at the first point of a row of eight, each point's product added. -/
def y0At (c : Dev nD) : (n : ℕ) → n < cfg0.N → Vec F S1024x1536 .f32
  | 0, hn => k0_pay4 (gOf V c ⟨0, hn⟩) (wsOf V c ⟨0, hn⟩) k0_pay2 (xblk V c 2 ⟨0, hn⟩)
  | n + 1, hn => k0_pay4 (gOf V c ⟨n + 1, hn⟩) (wsOf V c ⟨n + 1, hn⟩) (if (n + 1) % 8 = 0 then k0_pay2 else y0At c n (Nat.lt_of_succ_lt hn)) (xblk V c 2 ⟨n + 1, hn⟩)

/-- The second accumulator after point `n`. -/
def y1At (c : Dev nD) : (n : ℕ) → n < cfg0.N → Vec F S1024x1536 .f32
  | 0, hn => k0_pay5 (gOf V c ⟨0, hn⟩) (wsOf V c ⟨0, hn⟩) k0_pay3 (xblk V c 3 ⟨0, hn⟩)
  | n + 1, hn => k0_pay5 (gOf V c ⟨n + 1, hn⟩) (wsOf V c ⟨n + 1, hn⟩) (if (n + 1) % 8 = 0 then k0_pay3 else y1At c n (Nat.lt_of_succ_lt hn)) (xblk V c 3 ⟨n + 1, hn⟩)

/-- At the first phase the first accumulator is one step from zero. -/
theorem y0At_first (c : Dev nD) (t : Fin cfg0.N) (h : t.val % 8 = 0) :
    y0At V c t.val t.isLt = k0_pay4 (gOf V c t) (wsOf V c t) k0_pay2 (xblk V c 2 t) := by
  obtain ⟨n, hn⟩ := t
  cases n with
  | zero => rfl
  | succ n => show k0_pay4 _ _ (if (n + 1) % 8 = 0 then _ else _) _ = _; rw [if_pos h]
/-- At the first phase the second accumulator is one step from zero. -/
theorem y1At_first (c : Dev nD) (t : Fin cfg0.N) (h : t.val % 8 = 0) :
    y1At V c t.val t.isLt = k0_pay5 (gOf V c t) (wsOf V c t) k0_pay3 (xblk V c 3 t) := by
  obtain ⟨n, hn⟩ := t
  cases n with
  | zero => rfl
  | succ n => show k0_pay5 _ _ (if (n + 1) % 8 = 0 then _ else _) _ = _; rw [if_pos h]
/-- At any other phase the first accumulator is one step from what the point before left. -/
theorem y0At_next (c : Dev nD) (t : Fin cfg0.N) (h : ¬t.val % 8 = 0) :
    y0At V c t.val t.isLt = k0_pay4 (gOf V c t) (wsOf V c t) (y0At V c (t.val - 1) (Nat.lt_of_le_of_lt (Nat.sub_le _ _) t.isLt)) (xblk V c 2 t) := by
  obtain ⟨n, hn⟩ := t
  cases n with
  | zero => exact absurd (Nat.zero_mod _) h
  | succ n => show k0_pay4 _ _ (if (n + 1) % 8 = 0 then _ else _) _ = _; rw [if_neg h]; rfl
/-- At any other phase the second accumulator is one step from what the point before left. -/
theorem y1At_next (c : Dev nD) (t : Fin cfg0.N) (h : ¬t.val % 8 = 0) :
    y1At V c t.val t.isLt = k0_pay5 (gOf V c t) (wsOf V c t) (y1At V c (t.val - 1) (Nat.lt_of_le_of_lt (Nat.sub_le _ _) t.isLt)) (xblk V c 3 t) := by
  obtain ⟨n, hn⟩ := t
  cases n with
  | zero => exact absurd (Nat.zero_mod _) h
  | succ n => show k0_pay5 _ _ (if (n + 1) % 8 = 0 then _ else _) _ = _; rw [if_neg h]; rfl

/-- The accumulator depends on the point's number only. -/
theorem y1At_congr (c : Dev nD) {n k : ℕ} (e : n = k) (hn : n < cfg0.N) (hk : k < cfg0.N) : y1At V c n hn = y1At V c k hk := by
  subst e; rfl

/-- The carry a point reads: zeros in the first row block of a batch entry, else the first rows of the second
    accumulator at the end of the row block before. -/
def crAt (c : Dev nD) (t : Fin cfg0.N) : Vec F S8x1536 .f32 :=
  if t.val / 8 % 2 = 0 then k0_pay6 else k0_pay8 (y1At V c (t.val - 8) (Nat.lt_of_le_of_lt (Nat.sub_le _ _) t.isLt))

/-- The output block the last point of a row writes. -/
def dxBlk (c : Dev nD) (t : Fin cfg0.N) : Vec F S1x1024x1536 .bf16 :=
  k0_pay7 (y1At V c t.val t.isLt) (row0 (crAt V c t)) (y0At V c t.val t.isLt)

/-! ## The invariant and the proof data -/

/-- What the scratch holds before point `n`: inside a row of eight the accumulators are those of the point before;
    from the second row on, the carry is the first rows of the second accumulator at the end of the row before. -/
def DxInv (c : Dev nD) (n : ℕ) (h : n ≤ cfg0.N) (y0 y1 : Vec F S1024x1536 .f32) (cr : Vec F S8x1536 .f32) : Prop :=
  (∀ hn : n % 8 ≠ 0, y0 = y0At V c (n - 1) (by have : n ≠ 0 := fun e => hn (by rw [e]); omega)
      ∧ y1 = y1At V c (n - 1) (by have : n ≠ 0 := fun e => hn (by rw [e]); omega))
    ∧ (∀ hn : 8 ≤ n, cr = k0_pay8 (y1At V c (n / 8 * 8 - 1) (by omega)))

/-- The scoped buffers that are neither the dx region's staging nor its scratch, each whole at some contents. -/
def dxRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant before point `n`: the scratch at contents as `DxInv` says, and the generator register at some state. -/
def PhiDx (c : Dev nD) (n : ℕ) (h : n ≤ cfg0.N) : sProp 𝕄 :=
  iprop(∃ y0 y1 cr, ⌜DxInv V c n h y0 y1 cr⌝ ∗ owns (c : Thread nD τ) scM0_0 fullShare y0 ∗ owns (c : Thread nD τ) scM0_1 fullShare y1
    ∗ owns (c : Thread nD τ) scM0_2 fullShare cr ∗ dxRest c ∗ (∃ r, prngReg c r))

/-- The dx region's proof data over the arrays it finds. -/
def datDx (c : Dev nD) : Dat τ (Elt F) Unit ℕ (UR sig nD τ) ℕ cfg0 c where
  A w := V c (Pipeline.arrRef spec0 w)
  after w t := match w with
    | ⟨0, _⟩ => xblk V c 0 t
    | ⟨1, _⟩ => xblk V c 1 t
    | ⟨2, _⟩ => xblk V c 2 t
    | ⟨3, _⟩ => xblk V c 3 t
    | ⟨4, _⟩ => xblk V c 4 t
    | ⟨5, _⟩ => dxBlk V c t
  Φ t := PhiDx V c t.val (Nat.le_of_lt_succ t.isLt)
  q w := Pipeline.shareOf spec0 w
  owed _ := 0

/-- The proof data starts from the arrays the region finds. -/
theorem datDx_A (c : Dev nD) (w : Fin cfg0.W) : (datDx V c).A w = V c (Pipeline.arrRef spec0 w) := by
  dsimp only [datDx]
/-- Before the body at a point, window 0 holds its block. -/
theorem dxBefore_0 (c : Dev nD) (t : Fin cfg0.N) (d) : (datDx V c).before 0 t d = xblk V c 0 t :=
  before0_0_of V (datDx V c) (datDx_A V c 0) (fun _ => by dsimp only [datDx]) t d
/-- After the body at a point, window 0 still holds its block. -/
theorem dxAfter_0 (c : Dev nD) (t : Fin cfg0.N) : (datDx V c).after 0 t = xblk V c 0 t := by dsimp only [datDx]
/-- Before the body at a point, window 1 holds its block. -/
theorem dxBefore_1 (c : Dev nD) (t : Fin cfg0.N) (d) : (datDx V c).before 1 t d = xblk V c 1 t :=
  before0_1_of V (datDx V c) (datDx_A V c 1) (fun _ => by dsimp only [datDx]) t d
/-- After the body at a point, window 1 still holds its block. -/
theorem dxAfter_1 (c : Dev nD) (t : Fin cfg0.N) : (datDx V c).after 1 t = xblk V c 1 t := by dsimp only [datDx]
/-- Before the body at a point, window 2 holds its block. -/
theorem dxBefore_2 (c : Dev nD) (t : Fin cfg0.N) (d) : (datDx V c).before 2 t d = xblk V c 2 t :=
  before0_2_of V (datDx V c) (datDx_A V c 2) (fun _ => by dsimp only [datDx]) t d
/-- After the body at a point, window 2 still holds its block. -/
theorem dxAfter_2 (c : Dev nD) (t : Fin cfg0.N) : (datDx V c).after 2 t = xblk V c 2 t := by dsimp only [datDx]
/-- Before the body at a point, window 3 holds its block. -/
theorem dxBefore_3 (c : Dev nD) (t : Fin cfg0.N) (d) : (datDx V c).before 3 t d = xblk V c 3 t :=
  before0_3_of V (datDx V c) (datDx_A V c 3) (fun _ => by dsimp only [datDx]) t d
/-- After the body at a point, window 3 still holds its block. -/
theorem dxAfter_3 (c : Dev nD) (t : Fin cfg0.N) : (datDx V c).after 3 t = xblk V c 3 t := by dsimp only [datDx]
/-- Before the body at a point, window 4 holds its block. -/
theorem dxBefore_4 (c : Dev nD) (t : Fin cfg0.N) (d) : (datDx V c).before 4 t d = xblk V c 4 t :=
  before0_4_of V (datDx V c) (datDx_A V c 4) (fun _ => by dsimp only [datDx]) t d
/-- After the body at a point, window 4 still holds its block. -/
theorem dxAfter_4 (c : Dev nD) (t : Fin cfg0.N) : (datDx V c).after 4 t = xblk V c 4 t := by dsimp only [datDx]
/-- At the last phase the result's window holds the point's block. -/
theorem dxAfter_5 (c : Dev nD) (t : Fin cfg0.N) : (datDx V c).after 5 t = dxBlk V c t := by dsimp only [datDx]

/-- What the body is called with at point `t`, the windows one by one, -/
def dxPre (c : Dev nD) (t : Fin cfg0.N) : sProp 𝕄 :=
  iprop((datDx V c).Φ t.castSucc ∗ (datDx V c).owesAt () t.castSucc
    ∗ (∃ d, owns (c : Thread nD τ) (ms0_0 t) fullShare ((datDx V c).before 0 t d))
    ∗ (∃ d, owns (c : Thread nD τ) (ms0_1 t) fullShare ((datDx V c).before 1 t d))
    ∗ (∃ d, owns (c : Thread nD τ) (ms0_2 t) fullShare ((datDx V c).before 2 t d))
    ∗ (∃ d, owns (c : Thread nD τ) (ms0_3 t) fullShare ((datDx V c).before 3 t d))
    ∗ (∃ d, owns (c : Thread nD τ) (ms0_4 t) fullShare ((datDx V c).before 4 t d))
    ∗ (∃ d, owns (c : Thread nD τ) (ms0_5 t) fullShare ((datDx V c).before 5 t d)))

/-- and what it returns. -/
def dxPost (c : Dev nD) (t : Fin cfg0.N) : sProp 𝕄 :=
  iprop((datDx V c).Φ t.succ ∗ (datDx V c).owesAt () t.succ
    ∗ owns (c : Thread nD τ) (ms0_0 t) fullShare ((datDx V c).after 0 t)
    ∗ owns (c : Thread nD τ) (ms0_1 t) fullShare ((datDx V c).after 1 t)
    ∗ owns (c : Thread nD τ) (ms0_2 t) fullShare ((datDx V c).after 2 t)
    ∗ owns (c : Thread nD τ) (ms0_3 t) fullShare ((datDx V c).after 3 t)
    ∗ owns (c : Thread nD τ) (ms0_4 t) fullShare ((datDx V c).after 4 t)
    ∗ (datDx V c).leavesExact 5 t)

/-- The output window is idle at every point but the last of a row. -/
theorem dxIdle (t : Fin cfg0.N) (h : ¬t.val % 8 = 7) : cfg0.idle 5 (cfg0.grid.coords t) = true := by
  show idle0 5 (grid0.coords t) = true
  have : ¬k0_cond2 (grid0.coords t) = 1#1 := fun e => h ((hcond0_1 t).mp e)
  show (!(k0_cond2 (grid0.coords t) == 1)) = true
  rw [Bool.not_eq_true', beq_eq_false_iff_ne]; exact this

/-- The result's window is in use at the last phase. -/
theorem dxLive (t : Fin cfg0.N) (h : t.val % 8 = 7) : cfg0.idle 5 (cfg0.grid.coords t) = false := by
  have : k0_cond2 (grid0.coords t) = 1#1 := (hcond0_1 t).mpr h
  show (!(k0_cond2 (grid0.coords t) == 1)) = false
  rw [Bool.not_eq_false', beq_iff_eq]; exact this

/-- The result's window is not flushed before the last phase. -/
theorem dxNoFlush (t : Fin cfg0.N) (h : ¬t.val % 8 = 7) : (cfg0.win 5).flush t = false :=
  Bool.eq_false_iff.mpr fun e => h ((flush0_5 t).mp e)

/-- The window hands back what it was handed where it is idle, -/
theorem dxLeaves_idle (c : Dev nD) (t : Fin cfg0.N) (h : ¬t.val % 8 = 7) :
    (datDx V c).leavesExact 5 t = iprop(∃ d, owns (c : Thread nD τ) (ms0_5 t) fullShare ((datDx V c).before 5 t d)) := by
  unfold Dat.leavesExact; rw [dxIdle t h, dxNoFlush t h]
/-- and the block at the last point of a row. -/
theorem dxLeaves_live (c : Dev nD) (t : Fin cfg0.N) (h : t.val % 8 = 7) :
    (datDx V c).leavesExact 5 t = owns (c : Thread nD τ) (ms0_5 t) fullShare (dxBlk V c t) := by
  unfold Dat.leavesExact; rw [dxLive t h, dxAfter_5]

/-- The invariant after a point that is not the last of its row: the accumulators are the point's, the carry as found. -/
theorem dxInv_mid (c : Dev nD) (t : Fin cfg0.N) (h : ¬t.val % 8 = 7) {y0 y1 : Vec F S1024x1536 .f32} {cr : Vec F S8x1536 .f32} {a0 a1 : Vec F S1024x1536 .f32}
    (hi : DxInv V c t.val (Nat.le_of_lt t.isLt) a0 a1 cr) (e0 : y0 = y0At V c t.val t.isLt) (e1 : y1 = y1At V c t.val t.isLt) :
    DxInv V c (t.val + 1) t.isLt y0 y1 cr := by
  refine ⟨fun _ => ⟨e0, e1⟩, fun hn => ?_⟩
  have h8 : 8 ≤ t.val := by omega
  rw [hi.2 h8]
  exact congrArg k0_pay8 (y1At_congr V c (by omega) _ _)

/-- The invariant after the last point of a row: the carry is the first rows of the point's second accumulator. -/
theorem dxInv_last (c : Dev nD) (t : Fin cfg0.N) (h : t.val % 8 = 7) {y0 y1 : Vec F S1024x1536 .f32} {cr : Vec F S8x1536 .f32}
    (e1 : cr = k0_pay8 (y1At V c t.val t.isLt)) :
    DxInv V c (t.val + 1) t.isLt y0 y1 cr := by
  refine ⟨fun hn => absurd (show (t.val + 1) % 8 = 0 by omega) hn, fun hn => ?_⟩
  rw [e1]; exact congrArg k0_pay8 (y1At_congr V c (by omega) _ _)

/-- The carry found at the last point of a second row block is the one the row block before left. -/
theorem dxInv_carry (c : Dev nD) (t : Fin cfg0.N) (h : t.val % 8 = 7) (h2 : ¬t.val / 8 % 2 = 0) {a0 a1 : Vec F S1024x1536 .f32} {cr : Vec F S8x1536 .f32}
    (hi : DxInv V c t.val (Nat.le_of_lt t.isLt) a0 a1 cr) : cr = crAt V c t := by
  unfold crAt; rw [if_neg h2, hi.2 (by omega)]
  exact congrArg k0_pay8 (y1At_congr V c (by omega) _ _)

set_option maxHeartbeats 1600000 in
/-- The body at any point, by the four cases of its conditionals. -/
theorem dx_sound (c : Dev nD) (t : Fin cfg0.N) :
    dxPre V c t ⊢ wp frame (wpE (defs₀ (F := F)) Variants.none c none) Set.univ (bodyAt0 t) (fun _ => dxPost V c t) := by
  unfold dxPre dxPost bodyAt0
  simp only [dxBefore_0, dxBefore_1, dxBefore_2, dxBefore_3, dxBefore_4, dxAfter_0, dxAfter_1, dxAfter_2, dxAfter_3, dxAfter_4]
  rw [show (datDx V c).owesAt () t.succ = (datDx V c).owesAt () t.castSucc from rfl]
  rw [show (datDx V c).Φ t.castSucc = PhiDx V c t.val (Nat.le_of_lt t.isLt) from rfl]
  rw [show (datDx V c).Φ t.succ = PhiDx V c (t.val + 1) t.isLt from rfl]
  rw [show PhiDx V c t.val (Nat.le_of_lt t.isLt) = iprop(∃ y0 y1 cr, ⌜DxInv V c t.val (Nat.le_of_lt t.isLt) y0 y1 cr⌝ ∗ owns (c : Thread nD τ) scM0_0 fullShare y0 ∗ owns (c : Thread nD τ) scM0_1 fullShare y1
    ∗ owns (c : Thread nD τ) scM0_2 fullShare cr ∗ dxRest c ∗ (∃ r, prngReg c r)) from rfl]
  have hN : t.val < 64 := lt_of_lt_of_eq t.isLt (show cfg0.N = 64 from N_0)
  by_cases h0 : t.val % 8 = 0
  · have h1 : ¬t.val % 8 = 7 := by omega
    rw [dxLeaves_idle V c t h1]
    iintro ⟨⟨%y0, %y1, %cr, %hi, HS0, HS1, HS2, HR, Hg⟩, Ho, ⟨%d0, H0⟩, ⟨%d1, H1⟩, ⟨%d2, H2⟩, ⟨%d3, H3⟩, ⟨%d4, H4⟩, ⟨%d5, H5⟩⟩
    iapply (dxRun_A c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) ((hcond0_0 t).mpr h0) (fun h => h1 ((hcond0_1 t).mp h)) (xblk V c 0 t) (xblk V c 1 t) (xblk V c 2 t) (xblk V c 3 t) (xblk V c 4 t) _ y0 y1 cr Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 HR Hg]
    · unfold PhiDx
      iexists _, _, _
      isplitr; swap
      · isplitl [HS0]; · iexact HS0
        isplitl [HS1]; · iexact HS1
        isplitl [HS2]; · iexact HS2
        isplitl [HR]; · iexact HR
        iexact Hg
      ipureintro
      exact dxInv_mid V c t h1 hi (y0At_first V c t h0).symm (y1At_first V c t h0).symm
    isplitl [Ho]; · iexact Ho
    isplitl [H0]; · iexact H0
    isplitl [H1]; · iexact H1
    isplitl [H2]; · iexact H2
    isplitl [H3]; · iexact H3
    isplitl [H4]; · iexact H4
    iexists _; iexact H5
  · have hp : ∀ {a0 a1 : Vec F S1024x1536 .f32} {cr : Vec F S8x1536 .f32}, DxInv V c t.val (Nat.le_of_lt t.isLt) a0 a1 cr → k0_pay4 (gOf V c t) (wsOf V c t) a0 (xblk V c 2 t) = y0At V c t.val t.isLt ∧ k0_pay5 (gOf V c t) (wsOf V c t) a1 (xblk V c 3 t) = y1At V c t.val t.isLt :=
      fun hi => ⟨by rw [y0At_next V c t h0, (hi.1 h0).1], by rw [y1At_next V c t h0, (hi.1 h0).2]⟩
    by_cases h1 : t.val % 8 = 7
    · rw [dxLeaves_live V c t h1]
      iintro ⟨⟨%y0, %y1, %cr, %hi, HS0, HS1, HS2, HR, Hg⟩, Ho, ⟨%d0, H0⟩, ⟨%d1, H1⟩, ⟨%d2, H2⟩, ⟨%d3, H3⟩, ⟨%d4, H4⟩, ⟨%d5, H5⟩⟩
      have e0 := (hp hi).1
      have e1 := (hp hi).2
      by_cases h2 : t.val / 8 % 2 = 0
      · iapply (dxRun_C c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) (fun h => h0 ((hcond0_0 t).mp h)) ((hcond0_1 t).mpr h1) ((hcond0_2 t).mpr h2) (xblk V c 0 t) (xblk V c 1 t) (xblk V c 2 t) (xblk V c 3 t) (xblk V c 4 t) _ y0 y1 cr Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 HR Hg]
        · unfold PhiDx
          iexists _, _, _
          isplitr; swap
          · isplitl [HS0]; · iexact HS0
            isplitl [HS1]; · iexact HS1
            isplitl [HS2]; · iexact HS2
            isplitl [HR]; · iexact HR
            iexact Hg
          ipureintro
          exact dxInv_last V c t h1 (congrArg k0_pay8 e1)
        isplitl [Ho]; · iexact Ho
        isplitl [H0]; · iexact H0
        isplitl [H1]; · iexact H1
        isplitl [H2]; · iexact H2
        isplitl [H3]; · iexact H3
        isplitl [H4]; · iexact H4
        rw [show dxBlk V c t = k0_pay7 (k0_pay5 (k0_pay9 (xblk V c 0 t) (xblk V c 1 t)) (k0_pay10 (xblk V c 4 t)) y1 (xblk V c 3 t)) (row0 k0_pay6) (k0_pay4 (k0_pay9 (xblk V c 0 t) (xblk V c 1 t)) (k0_pay10 (xblk V c 4 t)) y0 (xblk V c 2 t)) from by
          unfold dxBlk; rw [← e0, ← e1, show crAt V c t = k0_pay6 from if_pos h2]; rfl]
        iexact H5
      · iapply (dxRun_D c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (xblk V c 0 t) (xblk V c 1 t) (xblk V c 2 t) (xblk V c 3 t) (xblk V c 4 t) _ y0 y1 cr Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 HR Hg]
        · unfold PhiDx
          iexists _, _, _
          isplitr; swap
          · isplitl [HS0]; · iexact HS0
            isplitl [HS1]; · iexact HS1
            isplitl [HS2]; · iexact HS2
            isplitl [HR]; · iexact HR
            iexact Hg
          ipureintro
          exact dxInv_last V c t h1 (congrArg k0_pay8 e1)
        isplitl [Ho]; · iexact Ho
        isplitl [H0]; · iexact H0
        isplitl [H1]; · iexact H1
        isplitl [H2]; · iexact H2
        isplitl [H3]; · iexact H3
        isplitl [H4]; · iexact H4
        rw [show dxBlk V c t = k0_pay7 (k0_pay5 (k0_pay9 (xblk V c 0 t) (xblk V c 1 t)) (k0_pay10 (xblk V c 4 t)) y1 (xblk V c 3 t)) (row0 cr) (k0_pay4 (k0_pay9 (xblk V c 0 t) (xblk V c 1 t)) (k0_pay10 (xblk V c 4 t)) y0 (xblk V c 2 t)) from by
          unfold dxBlk; rw [← e0, ← e1, ← dxInv_carry V c t h1 h2 hi]; rfl]
        iexact H5
    · rw [dxLeaves_idle V c t h1]
      iintro ⟨⟨%y0, %y1, %cr, %hi, HS0, HS1, HS2, HR, Hg⟩, Ho, ⟨%d0, H0⟩, ⟨%d1, H1⟩, ⟨%d2, H2⟩, ⟨%d3, H3⟩, ⟨%d4, H4⟩, ⟨%d5, H5⟩⟩
      have e0 := (hp hi).1
      have e1 := (hp hi).2
      iapply (dxRun_B c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) (fun h => h0 ((hcond0_0 t).mp h)) (fun h => h1 ((hcond0_1 t).mp h)) (xblk V c 0 t) (xblk V c 1 t) (xblk V c 2 t) (xblk V c 3 t) (xblk V c 4 t) _ y0 y1 cr Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · unfold PhiDx
        iexists _, _, _
        isplitr; swap
        · isplitl [HS0]; · iexact HS0
          isplitl [HS1]; · iexact HS1
          isplitl [HS2]; · iexact HS2
          isplitl [HR]; · iexact HR
          iexact Hg
        ipureintro
        exact dxInv_mid V c t h1 hi e0 e1
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row is the body at the point. -/
theorem dx_row (t : Fin cfg0.N) :
    defs₀ (F := F) .tc cfg0.body (cfg0.bodyArgs t (cfg0.slots t)) = bodyAt0 t := by
  unfold defs₀; rw [Defs.onTc_tc]

/-- The library's body obligation for the dx region. -/
theorem dx_obligation (c : Dev nD) : BodyObligation (datDx V c) (defs₀ (F := F)) Variants.none () Set.univ := fun t => by
  rw [bigSep_W0, bigSep_W0, dx_row]
  exact triple_restated (dx_sound V c t) rfl .rfl fun _ => .rfl

/-- The scoped rest and the generator register are the invariant before the first point, -/
theorem dx_hin (c : Dev nD) : iprop((∃ r, prngReg c r) ∗ Pipeline.scopedRest spec0 c) ⊢ (datDx V c).Φ 0 := by
  rw [show (datDx V c).Φ 0 = PhiDx V c 0 (Nat.zero_le _) from rfl, scopedRest0_eq]
  unfold PhiDx dxRest
  simp only [scM0_0, scM0_1, scM0_2, owns_whole]
  iintro ⟨Hg, ⟨%a, HS0⟩, ⟨%b, HS1⟩, ⟨%d, HS2⟩, HR⟩
  iexists a, b, d
  isplitr
  · ipureintro
    exact ⟨fun hn => absurd rfl hn, fun hn => absurd hn (by omega)⟩
  isplitl [HS0]; · iexact HS0
  isplitl [HS1]; · iexact HS1
  isplitl [HS2]; · iexact HS2
  isplitl [HR]; · iexact HR
  iexact Hg

/-- and are given back by the invariant after the last. -/
theorem dx_hout (c : Dev nD) : (datDx V c).Φ (Fin.last cfg0.N) ⊢ iprop((∃ r, prngReg c r) ∗ Pipeline.scopedRest spec0 c) := by
  rw [show (datDx V c).Φ (Fin.last cfg0.N) = PhiDx V c cfg0.N (Nat.le_refl _) from rfl, scopedRest0_eq]
  unfold PhiDx
  unfold dxRest
  simp only [scM0_0, scM0_1, scM0_2, owns_whole]
  iintro ⟨%a, %b, %d, %_, HS0, HS1, HS2, HR, Hg⟩
  isplitl [Hg]; · iexact Hg
  isplitl [HS0]; · iexists a; iexact HS0
  isplitl [HS1]; · iexists b; iexact HS1
  isplitl [HS2]; · iexists d; iexact HS2
  iexact HR

end Cert.Kernel.Gen

end
-- ==== Proof.Kernel.DwRuns.lean ====
module

public import proofs.«01_k».proof.Proof.Kernel.DxRuns
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the dw body's conditional: the point is the first of its row of eight. -/
abbrev cond1_0 (i : grid1.Coords) : Prop := (Scalar.cmpi .ne (Scalar.extui (Scalar.cmpi .eq (BitVec.ofNat 32 (i 1).val) 0#32)) 0#32) = 1#1
/-- It holds at the points that are 0 modulo 8. -/
theorem hcond1_0 (t : Fin cfg1.N) : cond1_0 (grid1.coords t) ↔ t.val % 8 = 0 := by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [cond1_0, e0, e1]
    word_cmp

/-- The rectangle of the first weight matrix in the dw block. -/
abbrev dwR0 : Rect S2x1x1536x768 := Rect.unit (s := S2x1x1536x768) ![0, 0, 0, 0] S1x1x1536x768.size inb_S2x1x1536x768_S1x1x1536x768_0_0_0_0
/-- The rectangle of the second weight matrix in the dw block. -/
abbrev dwR1 : Rect S2x1x1536x768 := Rect.unit (s := S2x1x1536x768) ![1, 0, 0, 0] S1x1x1536x768.size inb_S2x1x1536x768_S1x1x1536x768_1_0_0_0

/-- What a point of the dw kernel leaves in its block when it found `o` there: each half has that half's product added. -/
def dwStep (x0 : Vec F S1024x1536 .bf16) (x1 : Vec F S1024x1536 .bf16) (x2 : Vec F S1024x768 .fp8e5m2) (x3 : Vec F S1024x24 .f32) (o : Vec F S2x1x1536x768 .f32) : Vec F S2x1x1536x768 .f32 :=
  View.canon (Val := Elt F) [(⟨dwR1, k1_pay2 (k1_pay3 x2 x3) (View.ld o dwR1) x1⟩ : View.Piece (Elt F) S2x1x1536x768 .f32), ⟨dwR0, k1_pay1 (k1_pay3 x2 x3) (View.ld o dwR0) x0⟩]

/-- Each index of the result block lies in one of the two slabs. -/
theorem dw_cover (y : S2x1x1536x768.Idx) : y ∈ (dwR1 : Rect S2x1x1536x768).set ∨ y ∈ (dwR0 : Rect S2x1x1536x768).set := by
  rw [Rect.mem_set_unit, Rect.mem_set_unit]
  have h0 : (y 0).val < 2 := (y 0).isLt
  have h1 : (y 1).val < 1 := (y 1).isLt
  have h2 : (y 2).val < 1536 := (y 2).isLt
  have h3 : (y 3).val < 768 := (y 3).isLt
  by_cases h : (y 0).val = 0
  · right; intro a; match a with
      | 0 => exact ⟨Nat.zero_le _, by rw [h]; exact Nat.zero_lt_one⟩
      | 1 => exact ⟨Nat.zero_le _, h1⟩
      | 2 => exact ⟨Nat.zero_le _, h2⟩
      | 3 => exact ⟨Nat.zero_le _, h3⟩
  · left; intro a; match a with
      | 0 => exact ⟨Nat.one_le_iff_ne_zero.mpr h, h0⟩
      | 1 => exact ⟨Nat.zero_le _, h1⟩
      | 2 => exact ⟨Nat.zero_le _, h2⟩
      | 3 => exact ⟨Nat.zero_le _, h3⟩

/-- Two pieces that fill a shape read back as their canon, over any earlier writes. -/
theorem read_writes_two {Val : EltTy → Type} [∀ e, Nonempty (Val e)] {sg : RefSig} {κ : Kind} {sp : Space} {S : Shape} {e : EltTy}
    {v : View sg κ sp S e} {f : v.ty.Contents Val} {r1 r0 : Rect S} {w1 : r1.shape.Idx → Val e} {w0 : r0.shape.Idx → Val e}
    {L : List (View.Piece Val S e)} (hc : ∀ y, y ∈ r1.set ∨ y ∈ r0.set) :
    v.read Val (v.writes Val f ((⟨r1, w1⟩ : View.Piece Val S e) :: ⟨r0, w0⟩ :: L))
      = View.canon (Val := Val) [(⟨r1, w1⟩ : View.Piece Val S e), ⟨r0, w0⟩] := by
  rw [View.read_writes_eq_canon v f _ (fun y => (hc y).elim (fun h => ⟨_, List.mem_cons_self .., h⟩)
    (fun h => ⟨_, List.mem_cons_of_mem _ (List.mem_cons_self ..), h⟩))]
  funext y
  by_cases h1 : y ∈ r1.set
  · obtain ⟨x, rfl⟩ : ∃ x, r1.emb x = y := r1.exists_idx_of_mem h1
    rw [View.canon_cons_emb, View.canon_cons_emb]
  · rw [View.canon_cons_of_not_mem (⟨r1, w1⟩ : View.Piece Val S e) (⟨r0, w0⟩ :: L) h1, View.canon_cons_of_not_mem (⟨r1, w1⟩ : View.Piece Val S e) [⟨r0, w0⟩] h1]
    have h0 := (hc y).resolve_left h1
    obtain ⟨x, rfl⟩ : ∃ x, r0.emb x = y := r0.exists_idx_of_mem h0
    rw [View.canon_cons_emb, View.canon_cons_emb]

/-- The two slabs are disjoint. -/
theorem dw_disj : Disjoint (dwR0 : Rect S2x1x1536x768).set (dwR1 : Rect S2x1x1536x768).toLoadRect.set := by
  rw [Finset.disjoint_left]; intro y h h'
  have h0 := (Rect.mem_set_unit.mp h 0).2
  have h1 := (Rect.mem_set_unit.mp h' 0).1
  have : (y 0).val < 0 + 1 := h0
  have : 1 ≤ (y 0).val := h1
  omega

/-- A load of either half right after the zeroing store reads zeros' half. -/
theorem dw_rc0 {v : View sig .tc .vmem S2x1x1536x768 .f32} {w : Vec F S2x1x1536x768 .f32} {L : List (View.Piece (Elt F) S2x1x1536x768 .f32)}  (r : Rect S2x1x1536x768) :
    v.readCov (Val := Elt F) ((⟨Rect.unit ![0, 0, 0, 0] S2x1x1536x768.size inb_S2x1x1536x768_S2x1x1536x768_0_0_0_0, w⟩ : View.Piece (Elt F) S2x1x1536x768 .f32) :: L) r.toLoadRect = View.ld w r := by
  rw [View.readCov_eq_canon', View.canon_cons_unit_zero (S := S2x1x1536x768) (funext fun a => by fin_cases a <;> rfl)]

set_option maxHeartbeats 1000000 in
/-- The dw body at the first point of a row: the block is zeroed, and each half has its product added. -/
theorem dwRun_A (c : Dev nD) (i : grid1.Coords) (arg2 : Memref sig .tc .vmem S1024x1536 .bf16) (harg2 : arg2.IsWhole) (arg3 : Memref sig .tc .vmem S1024x1536 .bf16) (harg3 : arg3.IsWhole) (arg4 : Memref sig .tc .vmem S1024x768 .fp8e5m2) (harg4 : arg4.IsWhole) (arg5 : Memref sig .tc .vmem S1024x24 .f32) (harg5 : arg5.IsWhole) (arg6 : Memref sig .tc .vmem S2x1x1536x768 .f32) (harg6 : arg6.IsWhole) (hc0 : cond1_0 i)
    (x0 : Vec F S1024x1536 .bf16) (x1 : Vec F S1024x1536 .bf16) (x2 : Vec F S1024x768 .fp8e5m2) (x3 : Vec F S1024x24 .f32) (xo : Vec F S2x1x1536x768 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dwStep x0 x1 x2 x3 k1_pay4)) -∗ K ⟨⟩))
          ⊢ wp frame (wpE (defs₀ (F := F)) Variants.none c none) E (cc1_dw i arg2 harg2 arg3 harg3 arg4 harg4 arg5 harg5 arg6 harg6) K := by
    simp only [cc1_dw_eq_skeleton]; unfold cc1_dw_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    sl_unfold_words
    rw [read_writes_two dw_cover]
    simp only [View.readAt_eq_ld, harg2.read_unread, harg3.read_unread, harg4.read_unread, harg5.read_unread, harg6.read_unread, View.ld_unit_zero (S := S1024x1536) hz2, View.ld_unit_zero (S := S1024x768) hz2, View.ld_unit_zero (S := S1024x24) hz2]
    exact congrArg₂ (fun a b => View.canon (Val := Elt F) [(⟨dwR1, k1_pay2 (k1_pay3 x2 x3) a x1⟩ : View.Piece (Elt F) S2x1x1536x768 .f32), ⟨dwR0, k1_pay1 (k1_pay3 x2 x3) b x0⟩])
      ((View.readCov_cons_of_disjoint _ _ _ _ dw_disj).trans (dw_rc0 dwR1)) (dw_rc0 dwR0)

set_option maxHeartbeats 1000000 in
/-- The dw body at a later point of a row: each half of the block found has its product added. -/
theorem dwRun_B (c : Dev nD) (i : grid1.Coords) (arg2 : Memref sig .tc .vmem S1024x1536 .bf16) (harg2 : arg2.IsWhole) (arg3 : Memref sig .tc .vmem S1024x1536 .bf16) (harg3 : arg3.IsWhole) (arg4 : Memref sig .tc .vmem S1024x768 .fp8e5m2) (harg4 : arg4.IsWhole) (arg5 : Memref sig .tc .vmem S1024x24 .f32) (harg5 : arg5.IsWhole) (arg6 : Memref sig .tc .vmem S2x1x1536x768 .f32) (harg6 : arg6.IsWhole) (hc0 : ¬cond1_0 i)
    (x0 : Vec F S1024x1536 .bf16) (x1 : Vec F S1024x1536 .bf16) (x2 : Vec F S1024x768 .fp8e5m2) (x3 : Vec F S1024x24 .f32) (xo : Vec F S2x1x1536x768 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dwStep x0 x1 x2 x3 xo)) -∗ K ⟨⟩))
          ⊢ wp frame (wpE (defs₀ (F := F)) Variants.none c none) E (cc1_dw i arg2 harg2 arg3 harg3 arg4 harg4 arg5 harg5 arg6 harg6) K := by
    simp only [cc1_dw_eq_skeleton]; unfold cc1_dw_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    sl_unfold_words
    rw [read_writes_two dw_cover]
    simp only [View.readAt_eq_ld, harg2.read_unread, harg3.read_unread, harg4.read_unread, harg5.read_unread, harg6.read_unread, View.ld_unit_zero (S := S1024x1536) hz2, View.ld_unit_zero (S := S1024x768) hz2, View.ld_unit_zero (S := S1024x24) hz2]
    rfl

end Cert.Kernel.Gen

end
-- ==== Proof.Kernel.Dw.lean ====
module

public import proofs.«01_k».proof.Proof.Kernel.DwRuns
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the dw region finds it. -/
def wblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, for any proof data over these arrays that leave it in place. -/
theorem before1_0_of {c : Dev nD} (dat : Dat τ (Elt F) Unit ℕ (UR sig nD τ) ℕ cfg1 c) (hA : dat.A 0 = V c (Pipeline.arrRef spec1 0))
    (hafter : ∀ t, dat.after 0 t = wblk V c 0 t) (t : Fin cfg1.N) (d) : dat.before 0 t d = wblk V c 0 t :=
  (dat.before_in_eq_fetched 0 rfl (fun _ => rfl) (fun _ _ _ => rfl) (fun t => by rw [hafter]; unfold Dat.blockOf wblk; rw [hA]; try rfl) t d).trans
    (by unfold Dat.fetched Dat.blockOf wblk; rw [hA]; try rfl)
/-- Input window 1 holds its block at every point, for any proof data over these arrays that leave it in place. -/
theorem before1_1_of {c : Dev nD} (dat : Dat τ (Elt F) Unit ℕ (UR sig nD τ) ℕ cfg1 c) (hA : dat.A 1 = V c (Pipeline.arrRef spec1 1))
    (hafter : ∀ t, dat.after 1 t = wblk V c 1 t) (t : Fin cfg1.N) (d) : dat.before 1 t d = wblk V c 1 t :=
  (dat.before_in_eq_fetched 1 rfl (fun _ => rfl) (fun _ _ _ => rfl) (fun t => by rw [hafter]; unfold Dat.blockOf wblk; rw [hA]; try rfl) t d).trans
    (by unfold Dat.fetched Dat.blockOf wblk; rw [hA]; try rfl)
/-- Input window 2 holds its block at every point, for any proof data over these arrays that leave it in place. -/
theorem before1_2_of {c : Dev nD} (dat : Dat τ (Elt F) Unit ℕ (UR sig nD τ) ℕ cfg1 c) (hA : dat.A 2 = V c (Pipeline.arrRef spec1 2))
    (hafter : ∀ t, dat.after 2 t = wblk V c 2 t) (t : Fin cfg1.N) (d) : dat.before 2 t d = wblk V c 2 t :=
  (dat.before_in_eq_fetched 2 rfl (fun _ => rfl) (fun _ _ _ => rfl) (fun t => by rw [hafter]; unfold Dat.blockOf wblk; rw [hA]; try rfl) t d).trans
    (by unfold Dat.fetched Dat.blockOf wblk; rw [hA]; try rfl)
/-- Input window 3 holds its block at every point, for any proof data over these arrays that leave it in place. -/
theorem before1_3_of {c : Dev nD} (dat : Dat τ (Elt F) Unit ℕ (UR sig nD τ) ℕ cfg1 c) (hA : dat.A 3 = V c (Pipeline.arrRef spec1 3))
    (hafter : ∀ t, dat.after 3 t = wblk V c 3 t) (t : Fin cfg1.N) (d) : dat.before 3 t d = wblk V c 3 t :=
  (dat.before_in_eq_fetched 3 rfl (fun _ => rfl) (fun _ _ _ => rfl) (fun t => by rw [hafter]; unfold Dat.blockOf wblk; rw [hA]; try rfl) t d).trans
    (by unfold Dat.fetched Dat.blockOf wblk; rw [hA]; try rfl)
abbrev ms1_0 (t : Fin cfg1.N) : Memref sig .tc .vmem S1024x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1536 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x768 .fp8e5m2 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x24 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1x1536x768 .f32 := win1_4.stage (cfg1.slots t 4)
abbrev hs1_4 (t : Fin cfg1.N) : (ms1_4 t).IsWhole := hstage1_4 ((cfg1.slots t 4).cast nbuf1_4)
/-- The output block after point `n`: zeroed at the first point of a row of eight, each point's products added. -/
def dwAt (c : Dev nD) : (n : ℕ) → n < cfg1.N → Vec F S2x1x1536x768 .f32
  | 0, hn => dwStep (wblk V c 0 ⟨0, hn⟩) (wblk V c 1 ⟨0, hn⟩) (wblk V c 2 ⟨0, hn⟩) (wblk V c 3 ⟨0, hn⟩) k1_pay4
  | n + 1, hn => dwStep (wblk V c 0 ⟨n + 1, hn⟩) (wblk V c 1 ⟨n + 1, hn⟩) (wblk V c 2 ⟨n + 1, hn⟩) (wblk V c 3 ⟨n + 1, hn⟩)
      (if (n + 1) % 8 = 0 then k1_pay4 else dwAt c n (Nat.lt_of_succ_lt hn))

/-- At the first point of a row of eight the block is one step from zero. -/
theorem dwAt_first (c : Dev nD) (t : Fin cfg1.N) (h : t.val % 8 = 0) :
    dwAt V c t.val t.isLt = dwStep (wblk V c 0 t) (wblk V c 1 t) (wblk V c 2 t) (wblk V c 3 t) k1_pay4 := by
  obtain ⟨n, hn⟩ := t
  cases n with
  | zero => rfl
  | succ n => show dwStep _ _ _ _ (if (n + 1) % 8 = 0 then _ else _) = _; rw [if_pos h]
/-- At any other point the block is one step from what the point before left. -/
theorem dwAt_next (c : Dev nD) (t : Fin cfg1.N) (h : ¬t.val % 8 = 0) :
    dwAt V c t.val t.isLt = dwStep (wblk V c 0 t) (wblk V c 1 t) (wblk V c 2 t) (wblk V c 3 t) (dwAt V c (t.val - 1) (Nat.lt_of_le_of_lt (Nat.sub_le _ _) t.isLt)) := by
  obtain ⟨n, hn⟩ := t
  cases n with
  | zero => exact absurd (Nat.zero_mod _) h
  | succ n => show dwStep _ _ _ _ (if (n + 1) % 8 = 0 then _ else _) = _; rw [if_neg h]; rfl

/-- The dw region's proof data over the arrays it finds. -/
def datDw (c : Dev nD) : Dat τ (Elt F) Unit ℕ (UR sig nD τ) ℕ cfg1 c where
  A w := V c (Pipeline.arrRef spec1 w)
  after w t := match w with
    | ⟨0, _⟩ => wblk V c 0 t
    | ⟨1, _⟩ => wblk V c 1 t
    | ⟨2, _⟩ => wblk V c 2 t
    | ⟨3, _⟩ => wblk V c 3 t
    | ⟨4, _⟩ => dwAt V c t.val t.isLt
  Φ _ := Pipeline.ΦA spec1 c
  q w := Pipeline.shareOf spec1 w
  owed _ := 0

/-- The proof data starts from the arrays the region finds. -/
theorem datDw_A (c : Dev nD) (w : Fin cfg1.W) : (datDw V c).A w = V c (Pipeline.arrRef spec1 w) := by
  dsimp only [datDw]
/-- Before the body at a point, window 0 holds its block. -/
theorem dwBefore_0 (c : Dev nD) (t : Fin cfg1.N) (d) : (datDw V c).before 0 t d = wblk V c 0 t :=
  before1_0_of V (datDw V c) (datDw_A V c 0) (fun _ => by dsimp only [datDw]) t d
/-- After the body at a point, window 0 still holds its block. -/
theorem dwAfter_0 (c : Dev nD) (t : Fin cfg1.N) : (datDw V c).after 0 t = wblk V c 0 t := by dsimp only [datDw]
/-- Before the body at a point, window 1 holds its block. -/
theorem dwBefore_1 (c : Dev nD) (t : Fin cfg1.N) (d) : (datDw V c).before 1 t d = wblk V c 1 t :=
  before1_1_of V (datDw V c) (datDw_A V c 1) (fun _ => by dsimp only [datDw]) t d
/-- After the body at a point, window 1 still holds its block. -/
theorem dwAfter_1 (c : Dev nD) (t : Fin cfg1.N) : (datDw V c).after 1 t = wblk V c 1 t := by dsimp only [datDw]
/-- Before the body at a point, window 2 holds its block. -/
theorem dwBefore_2 (c : Dev nD) (t : Fin cfg1.N) (d) : (datDw V c).before 2 t d = wblk V c 2 t :=
  before1_2_of V (datDw V c) (datDw_A V c 2) (fun _ => by dsimp only [datDw]) t d
/-- After the body at a point, window 2 still holds its block. -/
theorem dwAfter_2 (c : Dev nD) (t : Fin cfg1.N) : (datDw V c).after 2 t = wblk V c 2 t := by dsimp only [datDw]
/-- Before the body at a point, window 3 holds its block. -/
theorem dwBefore_3 (c : Dev nD) (t : Fin cfg1.N) (d) : (datDw V c).before 3 t d = wblk V c 3 t :=
  before1_3_of V (datDw V c) (datDw_A V c 3) (fun _ => by dsimp only [datDw]) t d
/-- After the body at a point, window 3 still holds its block. -/
theorem dwAfter_3 (c : Dev nD) (t : Fin cfg1.N) : (datDw V c).after 3 t = wblk V c 3 t := by dsimp only [datDw]
/-- After a point the result's window holds the accumulated block. -/
theorem dwAfter_4 (c : Dev nD) (t : Fin cfg1.N) : (datDw V c).after 4 t = dwAt V c t.val t.isLt := by dsimp only [datDw]
/-- Off the first point of a row the output's staging buffer holds what the point before left. -/
theorem dwBefore_4 (c : Dev nD) (t : Fin cfg1.N) (h0 : ¬t.val % 8 = 0) (d) :
    (datDw V c).before 4 t d = dwAt V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [datDw]

/-- What the body is called with at point `t`, the windows one by one, -/
def dwPre (c : Dev nD) (t : Fin cfg1.N) : sProp 𝕄 :=
  iprop((datDw V c).Φ t.castSucc ∗ (datDw V c).owesAt () t.castSucc
    ∗ (∃ d, owns (c : Thread nD τ) (ms1_0 t) fullShare ((datDw V c).before 0 t d))
    ∗ (∃ d, owns (c : Thread nD τ) (ms1_1 t) fullShare ((datDw V c).before 1 t d))
    ∗ (∃ d, owns (c : Thread nD τ) (ms1_2 t) fullShare ((datDw V c).before 2 t d))
    ∗ (∃ d, owns (c : Thread nD τ) (ms1_3 t) fullShare ((datDw V c).before 3 t d))
    ∗ (∃ d, owns (c : Thread nD τ) (ms1_4 t) fullShare ((datDw V c).before 4 t d)))

/-- and what it returns. -/
def dwPost (c : Dev nD) (t : Fin cfg1.N) : sProp 𝕄 :=
  iprop((datDw V c).Φ t.succ ∗ (datDw V c).owesAt () t.succ
    ∗ owns (c : Thread nD τ) (ms1_0 t) fullShare ((datDw V c).after 0 t)
    ∗ owns (c : Thread nD τ) (ms1_1 t) fullShare ((datDw V c).after 1 t)
    ∗ owns (c : Thread nD τ) (ms1_2 t) fullShare ((datDw V c).after 2 t)
    ∗ owns (c : Thread nD τ) (ms1_3 t) fullShare ((datDw V c).after 3 t)
    ∗ owns (c : Thread nD τ) (ms1_4 t) fullShare ((datDw V c).after 4 t))

set_option maxHeartbeats 1600000 in
/-- The body at any point, by the two cases of its conditional. -/
theorem dw_sound (c : Dev nD) (t : Fin cfg1.N) :
    dwPre V c t ⊢ wp frame (wpE (defs₀ (F := F)) Variants.none c none) Set.univ (bodyAt1 t) (fun _ => dwPost V c t) := by
  unfold dwPre dwPost bodyAt1
  simp only [dwBefore_0, dwBefore_1, dwBefore_2, dwBefore_3]
  rw [show (datDw V c).Φ t.succ = (datDw V c).Φ t.castSucc from rfl,
    show (datDw V c).owesAt () t.succ = (datDw V c).owesAt () t.castSucc from rfl,
    dwAfter_0, dwAfter_1, dwAfter_2, dwAfter_3, dwAfter_4]
  have hN : t.val < 64 := lt_of_lt_of_eq t.isLt (show cfg1.N = 64 from N_1)
  by_cases h0 : t.val % 8 = 0
  · rw [dwAt_first V c t h0]
    iintro ⟨HΦ, Ho, ⟨%d0, H0⟩, ⟨%d1, H1⟩, ⟨%d2, H2⟩, ⟨%d3, H3⟩, ⟨%d4, H4⟩⟩
    iapply (dwRun_A c (grid1.coords t) _ (hs1_0 t) _ (hs1_1 t) _ (hs1_2 t) _ (hs1_3 t) _ (hs1_4 t) ((hcond1_0 t).mpr h0) (wblk V c 0 t) (wblk V c 1 t) (wblk V c 2 t) (wblk V c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [dwAt_next V c t h0]
    simp only [dwBefore_4 V c t h0]
    iintro ⟨HΦ, Ho, ⟨%d0, H0⟩, ⟨%d1, H1⟩, ⟨%d2, H2⟩, ⟨%d3, H3⟩, ⟨%d4, H4⟩⟩
    iapply (dwRun_B c (grid1.coords t) _ (hs1_0 t) _ (hs1_1 t) _ (hs1_2 t) _ (hs1_3 t) _ (hs1_4 t) (fun h => h0 ((hcond1_0 t).mp h)) (wblk V c 0 t) (wblk V c 1 t) (wblk V c 2 t) (wblk V c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row is the body at the point. -/
theorem dw_row (t : Fin cfg1.N) :
    defs₀ (F := F) .tc cfg1.body (cfg1.bodyArgs t (cfg1.slots t)) = bodyAt1 t := by
  unfold defs₀; rw [Defs.onTc_tc]

/-- The library's body obligation for the dw region. -/
theorem dw_obligation (c : Dev nD) : BodyObligation (datDw V c) (defs₀ (F := F)) Variants.none () Set.univ := fun t => by
  rw [bigSep_W1, bigSep_W1, dw_row]
  exact triple_restated (dw_sound V c t) rfl .rfl fun _ => .rfl

end Cert.Kernel.Gen

end
-- ==== Proof.Kernel.Run.lean ====
module

public import Idealize.ShloMosaic.Lib.Pipeline.RegionArrays
public import proofs.«01_k».proof.Proof.Kernel.Dx
public import proofs.«01_k».proof.Proof.Kernel.Dw
public import proofs.«01_k».proof.Proof.Gen.Kernel.Regions
public import Idealize.ShloMosaic.Lib.Pipeline.RegionsLoop
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers the regions find and leave -/

/-- The buffers the dx region finds. -/
def VDx (c : Dev nD) (b : Ref sig .tc) : Buf (Elt F) ((c : Thread nD τ).loc b) := V1 m c b

/-- What the dx region leaves in its result. -/
def dxFinal (c : Dev nD) : Buf (Elt F) ((c : Thread nD τ).loc main_v2) := (datDx (VDx m) c).arrAt 5 cfg0.N

/-- The unknowns of the generated frame with the dx region's result filled in. -/
def outsA : Outs (F := F) := fun _ r c => Function.update (V1 m c) (Proc.devRef .tc main_v2) (dxFinal m c) (Proc.devRef .tc r)

/-- The buffers the dw region finds. -/
def VDw (c : Dev nD) (b : Ref sig .tc) : Buf (Elt F) ((c : Thread nD τ).loc b) := V5 m (outsA m) c b

/-- What the dw region leaves in its result. -/
def dwFinal (c : Dev nD) : Buf (Elt F) ((c : Thread nD τ).loc main_v9) := (datDw (VDw m) c).arrAt 4 cfg1.N

/-- The unknowns of the generated frame: each region's result. -/
def outsF : Outs (F := F) := fun n r c => match n with
  | 6 => Function.update (V5 m (outsA m) c) (Proc.devRef .tc main_v9) (dwFinal m c) (Proc.devRef .tc r)
  | _ => outsA m n r c

/-- The first region's result among the regions' results. -/
theorem outsF_dx (c : Dev nD) : outsF m 2 main_v2 c = dxFinal m c := by
  show outsA m 2 main_v2 c = _
  unfold outsA; exact Function.update_self _ _ _
/-- The second region's result among the regions' results. -/
theorem outsF_dw (c : Dev nD) : outsF m 6 main_v9 c = dwFinal m c := by
  show Function.update (V5 m (outsA m) c) (Proc.devRef .tc main_v9) (dwFinal m c) (Proc.devRef .tc main_v9) = _
  exact Function.update_self _ _ _

/-- The proof data of both regions. -/
def pdats : (p : Fin 2) → (c : Dev nD) → Dat τ (Elt F) Unit ℕ (UR sig nD τ) ℕ (cfgs p) c
  | ⟨0, _⟩ => fun c => datDx (VDx m) c
  | ⟨1, _⟩ => fun c => datDw (VDw m) c

/-- No core owes another anything: no level is assigned. -/
abbrev Lz : GSem nD τ sig → Finset Unit := fun _ => ∅
abbrev lvz : GSem nD τ sig → Unit → ℕ := fun _ _ => 0

/-- What rides beside the buffers: the core owing nothing and the generator register at some state. -/
abbrev Rz (c : Dev nD) : sProp 𝕄 := iprop((∃ W, owes (c : Thread nD τ) (0 : CellTallies nD τ sig Unit) W) ∗ (∃ r, prngReg c r))

/-! ## What the arrays hold when the regions are left -/

/-- After the first region its result's array holds what the region leaves. -/
theorem V2_dx (c : Dev nD) : V2 m (outsF m) c main_v2 = dxFinal m c := by
  show Function.update (V1 m c) (Proc.devRef .tc main_v2) (outsF m 2 main_v2 c) (Proc.devRef .tc main_v2) = _
  rw [Function.update_self, outsF_dx]
/-- After the second region its result's array holds what the region leaves. -/
theorem V6_dw (c : Dev nD) : V6 m (outsF m) c main_v9 = dwFinal m c := by
  show Function.update (V5 m (outsF m) c) (Proc.devRef .tc main_v9) (outsF m 6 main_v9 c) (Proc.devRef .tc main_v9) = _
  rw [Function.update_self, outsF_dw]

/-- The buffers the second region finds depend on the first result only. -/
theorem VDw_eq (c : Dev nD) (b : Ref sig .tc) : VDw m c b = V5 m (outsF m) c b := by
  unfold VDw; rfl

/-- At the first region's exit each of its arrays holds what the next stretch finds. -/
theorem dx_arr (c : Dev nD) : ∀ w, (datDx (VDx m) c).arrAt w cfg0.N = V2 m (outsF m) c (Pipeline.arrRef spec0 w)
  | ⟨0, _⟩ => ((datDx (VDx m) c).arrAt_in 0 rfl _).trans ((datDx_A (VDx m) c 0).trans (V2_of m (outsF m) c (Pipeline.arrRef spec0 0) (by decide)).symm)
  | ⟨1, _⟩ => ((datDx (VDx m) c).arrAt_in 1 rfl _).trans ((datDx_A (VDx m) c 1).trans (V2_of m (outsF m) c (Pipeline.arrRef spec0 1) (by decide)).symm)
  | ⟨2, _⟩ => ((datDx (VDx m) c).arrAt_in 2 rfl _).trans ((datDx_A (VDx m) c 2).trans (V2_of m (outsF m) c (Pipeline.arrRef spec0 2) (by decide)).symm)
  | ⟨3, _⟩ => ((datDx (VDx m) c).arrAt_in 3 rfl _).trans ((datDx_A (VDx m) c 3).trans (V2_of m (outsF m) c (Pipeline.arrRef spec0 3) (by decide)).symm)
  | ⟨4, _⟩ => ((datDx (VDx m) c).arrAt_in 4 rfl _).trans ((datDx_A (VDx m) c 4).trans (V2_of m (outsF m) c (Pipeline.arrRef spec0 4) (by decide)).symm)
  | ⟨5, _⟩ => (V2_dx m c).symm

/-- At the second region's exit each of its arrays holds what the next stretch finds. -/
theorem dw_arr (c : Dev nD) : ∀ w, (datDw (VDw m) c).arrAt w cfg1.N = V6 m (outsF m) c (Pipeline.arrRef spec1 w)
  | ⟨0, _⟩ => ((datDw (VDw m) c).arrAt_in 0 rfl _).trans ((datDw_A (VDw m) c 0).trans (V6_of m (outsF m) c (Pipeline.arrRef spec1 0) (by decide)).symm)
  | ⟨1, _⟩ => ((datDw (VDw m) c).arrAt_in 1 rfl _).trans ((datDw_A (VDw m) c 1).trans (V6_of m (outsF m) c (Pipeline.arrRef spec1 1) (by decide)).symm)
  | ⟨2, _⟩ => ((datDw (VDw m) c).arrAt_in 2 rfl _).trans ((datDw_A (VDw m) c 2).trans (V6_of m (outsF m) c (Pipeline.arrRef spec1 2) (by decide)).symm)
  | ⟨3, _⟩ => ((datDw (VDw m) c).arrAt_in 3 rfl _).trans ((datDw_A (VDw m) c 3).trans (V6_of m (outsF m) c (Pipeline.arrRef spec1 3) (by decide)).symm)
  | ⟨4, _⟩ => (V6_dw m c).symm

/-- Off the dx region's arrays nothing changes; -/
theorem dx_rest (c : Dev nD) (b : Ref sig .tc) (hb : b ∉ Finset.univ.image (Pipeline.arrRef spec0)) : V2 m (outsF m) c b = V1 m c b :=
  V2_of m (outsF m) c b fun h => hb (by rw [List.mem_singleton.mp h]; exact Finset.mem_image.mpr ⟨5, Finset.mem_univ _, rfl⟩)
/-- nor off the dw region's. -/
theorem dw_rest (c : Dev nD) (b : Ref sig .tc) (hb : b ∉ Finset.univ.image (Pipeline.arrRef spec1)) : V6 m (outsF m) c b = V5 m (outsF m) c b :=
  V6_of m (outsF m) c b fun h => hb (by rw [List.mem_singleton.mp h]; exact Finset.mem_image.mpr ⟨4, Finset.mem_univ _, rfl⟩)

/-- The dw region's invariant is made of the generator register and the scoped rest, -/
theorem dw_hin (c : Dev nD) : iprop((∃ r, prngReg c r) ∗ Pipeline.scopedRest spec1 c) ⊢ (datDw (VDw m) c).Φ 0 := by
  rw [show (datDw (VDw m) c).Φ 0 = Pipeline.ΦA spec1 c from rfl]
  unfold Pipeline.ΦA
  iintro ⟨Hg, Hr⟩
  isplitl [Hr]; · iexact Hr
  iexact Hg
/-- and gives them back. -/
theorem dw_hout (c : Dev nD) : (datDw (VDw m) c).Φ (Fin.last cfg1.N) ⊢ iprop((∃ r, prngReg c r) ∗ Pipeline.scopedRest spec1 c) := by
  rw [show (datDw (VDw m) c).Φ (Fin.last cfg1.N) = Pipeline.ΦA spec1 c from rfl]
  unfold Pipeline.ΦA
  iintro ⟨Hr, Hg⟩
  isplitl [Hg]; · iexact Hg
  iexact Hr

set_option backward.isDefEq.respectTransparency.types false in
/-- The dx region: entered from the buffers after the first host stretch, left with the result in place. -/
def regDx : RegionSeg (pcfgs (F := F)) adm (pdats m) () defs₀ Variants.none Lz lvz 0 where
  win := launch₀0.win
  block_pos := block_pos0
  stage_whole := stage_whole0
  K := PEmpty
  osem k := k.elim
  ho := Pipeline.OwnSemFacts.none _
  hbody c := (dx_obligation (VDx m) c).loose
  hwaits := Pipeline.hwaits_of_owed_zero _ _ _ _ Lz lvz 0 fun _ _ => rfl
  pre c := iprop(StableHlo.held (c : Thread nD τ) (Pipeline.ucRefs τ sig) (V1 m c) ∗ Rz c)
  post c := iprop(StableHlo.held (c : Thread nD τ) (Pipeline.ucRefs τ sig) (V2 m (outsF m) c) ∗ Rz c)
  X c := iprop(∃ r, prngReg c r)
  Y c := iprop(∃ r, prngReg c r)
  Z c := Pipeline.unscopedRest spec0 c (fun b => V1 m c b)
  hentry c := by
    rw [← Pipeline.unscopedBufs_held (Ix := Unit) (Name := ℕ) (U := UR sig nD τ) (Lvl := ℕ) c (V1 m c), Pipeline.ownSems0_none, Pipeline.prefHeld_of_none _ rfl]
    have hsplit := Pipeline.arrays_of_unscopedBufs_shared (pcfgs (F := F)) adm (pdats m) (p := 0) launch₀0.win sharedIn0 arr_whole0 c (fun _ _ => rfl) (fun b => V1 m c b) (datDx_A (VDx m) c)
    iintro ⟨⟨Hub, HO, Hg⟩, -, -⟩
    ihave H := hsplit $$ Hub
    icases H with ⟨Ha, Hz⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hz
  hin c := (show _ ⊢ iprop((∃ r, prngReg c r) ∗ Pipeline.scopedRest spec0 c) from by
    iintro ⟨HX, -, Hr⟩
    isplitl [HX]; · iexact HX
    iexact Hr).trans (dx_hin (VDx m) c)
  hout c := (dx_hout (VDx m) c).trans (by
    rw [Pipeline.ownSems0_none]
    iintro ⟨HY, Hr⟩
    isplitl [HY]; · iexact HY
    isplitr; · iempintro
    iexact Hr)
  hexit c := by
    rw [← Pipeline.unscopedBufs_held (Ix := Unit) (Name := ℕ) (U := UR sig nD τ) (Lvl := ℕ) c (V2 m (outsF m) c)]
    have hjoin := Pipeline.unscopedBufs_of_arrays_shared (pcfgs (F := F)) adm (p := 0) launch₀0.win sharedIn0 arr_whole0 c (pdats m) (fun _ _ => rfl) (fun b => V1 m c b) (fun b => V2 m (outsF m) c b) ((datDx (VDx m) c).arrAt · cfg0.N) (dx_arr m c) (dx_rest m c)
    iintro ⟨Ha, HO, HY, HR⟩
    imodintro
    isplitl [Ha HR]
    · iapply hjoin
      isplitl [Ha]; · iexact Ha
      iexact HR
    isplitl [HO]
    · unfold Pipeline.Dat.owesAt Pipeline.owesWithin
      icases HO with ⟨%W, -, HO⟩; iexists W; iexact HO
    iexact HY

/-- The dw region's windows lie on distinct arrays: each is held whole. -/
theorem dw_share (c : Dev nD) : ∀ w, (pdats m 1 c).share w = fullShare :=
  (datDw (VDw m) c).share_full fun w => Pipeline.shareOf_eq_fullShare_of_injective _ launch1.win.arr_inj w

set_option backward.isDefEq.respectTransparency.types false in
/-- The dw region: entered from the buffers after the middle host stretches, left with the result in place. -/
def regDw : RegionSeg (pcfgs (F := F)) adm (pdats m) () defs₀ Variants.none Lz lvz 1 where
  win := launch1.win.to₀
  block_pos := block_pos1
  stage_whole := stage_whole1
  K := PEmpty
  osem k := k.elim
  ho := Pipeline.OwnSemFacts.none _
  hbody c := (dw_obligation (VDw m) c).loose
  hwaits := Pipeline.hwaits_of_owed_zero _ _ _ _ Lz lvz 1 fun _ _ => rfl
  pre c := iprop(StableHlo.held (c : Thread nD τ) (Pipeline.ucRefs τ sig) (V5 m (outsF m) c) ∗ Rz c)
  post c := iprop(StableHlo.held (c : Thread nD τ) (Pipeline.ucRefs τ sig) (V6 m (outsF m) c) ∗ Rz c)
  X c := iprop(∃ r, prngReg c r)
  Y c := iprop(∃ r, prngReg c r)
  Z c := Pipeline.unscopedRest spec1 c (fun b => V5 m (outsF m) c b)
  hentry c := by
    rw [← Pipeline.unscopedBufs_held (Ix := Unit) (Name := ℕ) (U := UR sig nD τ) (Lvl := ℕ) c (V5 m (outsF m) c), Pipeline.ownSems0_none, Pipeline.prefHeld_of_none _ rfl]
    have hsplit := Pipeline.arrays_of_unscopedBufs (pcfgs (F := F)) adm (pdats m) (p := 1) launch1.win arr_whole1 c (dw_share m c) (fun b => V5 m (outsF m) c b) (datDw_A (VDw m) c)
    iintro ⟨⟨Hub, HO, Hg⟩, -, -⟩
    ihave H := hsplit $$ Hub
    icases H with ⟨Ha, Hz⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hz
  hin c := (show _ ⊢ iprop((∃ r, prngReg c r) ∗ Pipeline.scopedRest spec1 c) from by
    iintro ⟨HX, -, Hr⟩
    isplitl [HX]; · iexact HX
    iexact Hr).trans (dw_hin m c)
  hout c := (dw_hout m c).trans (by
    rw [Pipeline.ownSems0_none]
    iintro ⟨HY, Hr⟩
    isplitl [HY]; · iexact HY
    isplitr; · iempintro
    iexact Hr)
  hexit c := by
    rw [← Pipeline.unscopedBufs_held (Ix := Unit) (Name := ℕ) (U := UR sig nD τ) (Lvl := ℕ) c (V6 m (outsF m) c)]
    have hjoin := Pipeline.unscopedBufs_of_arrays (pcfgs (F := F)) adm (p := 1) launch1.win arr_whole1 c (pdats m) (dw_share m c) (fun b => V5 m (outsF m) c b) (fun b => V6 m (outsF m) c b) ((datDw (VDw m) c).arrAt · cfg1.N) (dw_arr m c) (dw_rest m c)
    iintro ⟨Ha, HO, HY, HR⟩
    imodintro
    isplitl [Ha HR]
    · iapply hjoin
      isplitl [Ha]; · iexact Ha
      iexact HR
    isplitl [HO]
    · unfold Pipeline.Dat.owesAt Pipeline.owesWithin
      icases HO with ⟨%W, -, HO⟩; iexists W; iexact HO
    iexact HY

/-- The launch element. -/
def u₀ : UR sig nD τ := initOf (Pipeline.cells cfgs cellOf_inj) (Pipeline.launchToks cfgs cellOf_inj)

/-- @main runs, leaves its arguments as launched and every semaphore counter at zero. -/
theorem frameF (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_cond m emb₁ () Variants.none Lz lvz (fun _ _ => rfl) ρ (outsF m) (pdats m) 0 (fun _ => iprop(emp)) u₀
    (by
      unfold u₀
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro) (fun _ c => Rz c)
    (Pipeline.initEach Lz lvz fun c => by
      iintro ⟨⟨-, HO, -, Hg, -⟩, -⟩
      imodintro
      isplitl [HO]; · iexists ∅; iexact HO
      iexists _; iexact Hg) (fun c => by iintro ⟨HO, -⟩; iexact HO)
    (regDx m) (fun _ => .rfl) (fun _ => .rfl) (regDw m) (fun _ => .rfl) (fun _ => .rfl)

end Cert.Kernel.Gen

end
-- ==== Proof.KernelIdeal.DxRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of a rank-two rectangle. -/
theorem hz2 : (![0, 0] : Fin 2 → Nat) = fun _ => 0 := funext fun a => by fin_cases a <;> rfl
/-- Zero offsets of a rank-three rectangle. -/
theorem hz3 : (![0, 0, 0] : Fin 3 → Nat) = fun _ => 0 := funext fun a => by fin_cases a <;> rfl

/-- The condition of the dx body's first conditional: the point is the first of its row of eight. -/
abbrev cond0_0 (i : grid0.Coords) : Prop := (Scalar.cmpi .ne (Scalar.extui (Scalar.cmpi .eq (BitVec.ofNat 32 (i 2).val) 0#32)) 0#32) = 1#1
/-- It holds at the points that are 0 modulo 8. -/
theorem hcond0_0 (t : Fin cfg0.N) : cond0_0 (grid0.coords t) ↔ t.val % 8 = 0 := by
    have ht : t.val < 64 := Nat.lt_of_lt_of_eq t.isLt N_0
    have e0 : (grid0.coords t 0).val = t.val / 16 % 4 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_0, e0, e1, e2]
    word_cmp

/-- The condition of its second conditional: the point is the last of its row of eight. -/
abbrev cond0_1 (i : grid0.Coords) : Prop := k0_cond2 i = 1#1
/-- It holds at the points that are 7 modulo 8. -/
theorem hcond0_1 (t : Fin cfg0.N) : cond0_1 (grid0.coords t) ↔ t.val % 8 = 7 := by
    have ht : t.val < 64 := Nat.lt_of_lt_of_eq t.isLt N_0
    have e0 : (grid0.coords t 0).val = t.val / 16 % 4 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_1, k0_cond2, e0, e1, e2]
    word_cmp

/-- The condition of its third conditional: the first row block of a batch entry. -/
abbrev cond0_2 (i : grid0.Coords) : Prop := (Scalar.cmpi .ne (Scalar.extui (Scalar.cmpi .eq (BitVec.ofNat 32 (i 1).val) 0#32)) 0#32) = 1#1
/-- It holds at the points of an even group of eight. -/
theorem hcond0_2 (t : Fin cfg0.N) : cond0_2 (grid0.coords t) ↔ t.val / 8 % 2 = 0 := by
    have ht : t.val < 64 := Nat.lt_of_lt_of_eq t.isLt N_0
    have e0 : (grid0.coords t 0).val = t.val / 16 % 4 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_2, e0, e1, e2]
    word_cmp

/-- The carry's first row, as the dx body loads it. -/
abbrev row0 (x : Vec F S8x1536 .f32) : Vec F S1x1536 .f32 :=
  View.ld x (Rect.unit (s := S8x1536) ![0, 0] S1x1536.size inb_S8x1536_S1x1536_0_0)

/-- After a store of a whole shape through the rectangle at zero offsets, a view reads the stored vector. -/
theorem read_writes_unit_zero {Val : EltTy → Type} [∀ e, Nonempty (Val e)] {sg : RefSig} {κ : Kind} {sp : Space} {S : Shape} {e : EltTy}
    {v : View sg κ sp S e} {f : v.ty.Contents Val} {off : Fin S.rank → Nat} (h : off = fun _ => 0)
    {inb : ∀ a, off a + S.size a ≤ S.size a} {w : S.Idx → Val e} {L : List (View.Piece Val S e)} :
    v.read Val (v.writes Val f ((⟨Rect.unit off S.size inb, w⟩ : View.Piece Val S e) :: L)) = w := by
  rw [View.read_writes_eq_canon v f _ (fun y => ⟨_, List.mem_cons_self .., View.mem_set_unit_zero h inb y⟩), View.canon_cons_unit_zero h]

/-- A load of the first row of the carry right after the whole carry was stored reads the stored vector's first row. -/
theorem rc8 (v : View sig .tc .vmem S8x1536 .f32) (w : Vec F S8x1536 .f32) (L : List (View.Piece (Elt F) S8x1536 .f32)) :
    v.readCov (Val := Elt F) ((⟨Rect.unit ![0, 0] S8x1536.size inb_S8x1536_S8x1536_0_0, w⟩ : View.Piece (Elt F) S8x1536 .f32) :: L) (Rect.unit (s := S8x1536) ![0, 0] S1x1536.size inb_S8x1536_S1x1536_0_0).toLoadRect = row0 w := by
  rw [View.readCov_eq_canon', View.canon_cons_unit_zero (S := S8x1536) hz2]; rfl

set_option maxHeartbeats 1000000 in
/-- The dx body at the first point of a row: it zeroes both accumulators, adds the point's two products, and leaves the output block and the carry as found. -/
theorem dxRun_A (c : Dev nD) (i : grid0.Coords) (arg3 : Memref sig .tc .vmem S1x1024x768 .fp8e5m2) (harg3 : arg3.IsWhole) (arg4 : Memref sig .tc .vmem S1x1024x24 .f32) (harg4 : arg4.IsWhole) (arg5 : Memref sig .tc .vmem S1x1536x768 .fp8e4m3) (harg5 : arg5.IsWhole) (arg6 : Memref sig .tc .vmem S1x1536x768 .fp8e4m3) (harg6 : arg6.IsWhole) (arg7 : Memref sig .tc .vmem S1x768 .f32) (harg7 : arg7.IsWhole) (arg8 : Memref sig .tc .vmem S1x1024x1536 .bf16) (harg8 : arg8.IsWhole) (arg9 : Memref sig .tc .vmem S1024x1536 .f32) (harg9 : arg9.IsWhole) (arg10 : Memref sig .tc .vmem S1024x1536 .f32) (harg10 : arg10.IsWhole) (arg11 : Memref sig .tc .vmem S8x1536 .f32) (harg11 : arg11.IsWhole) (hc0 : cond0_0 i) (hc1 : ¬cond0_1 i)
    (x0 : Vec F S1x1024x768 .fp8e5m2) (x1 : Vec F S1x1024x24 .f32) (x2 : Vec F S1x1536x768 .fp8e4m3) (x3 : Vec F S1x1536x768 .fp8e4m3) (x4 : Vec F S1x768 .f32) (xo : Vec F S1x1024x1536 .bf16) (xs0 : Vec F S1024x1536 .f32) (xs1 : Vec F S1024x1536 .f32) (xs2 : Vec F S8x1536 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (xs0) ∗ owns (c : Thread nD τ) arg10 fullShare (xs1) ∗ owns (c : Thread nD τ) arg11 fullShare (xs2)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (k0_pay4 (k0_pay9 x0 x1) (k0_pay10 x4) k0_pay2 x2) ∗ owns (c : Thread nD τ) arg10 fullShare (k0_pay5 (k0_pay9 x0 x1) (k0_pay10 x4) k0_pay3 x3) ∗ owns (c : Thread nD τ) arg11 fullShare (xs2)) -∗ K ⟨⟩))
          ⊢ wp frame (wpE (defs₀ (F := F)) Variants.none c none) E (cc0_dx i arg3 harg3 arg4 harg4 arg5 harg5 arg6 harg6 arg7 harg7 arg8 harg8 arg9 harg9 arg10 harg10 arg11 harg11) K := by
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; swap; · iexact HS0
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS1]
    · iexists _; isplitr; swap; · iexact HS1
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    · iexists _; isplitr; · ipureintro; exact harg11.read_unread _
      iexact HS2

set_option maxHeartbeats 1000000 in
/-- The dx body at a middle point of a row: it adds the point's two products to the accumulators, and leaves the output block and the carry as found. -/
theorem dxRun_B (c : Dev nD) (i : grid0.Coords) (arg3 : Memref sig .tc .vmem S1x1024x768 .fp8e5m2) (harg3 : arg3.IsWhole) (arg4 : Memref sig .tc .vmem S1x1024x24 .f32) (harg4 : arg4.IsWhole) (arg5 : Memref sig .tc .vmem S1x1536x768 .fp8e4m3) (harg5 : arg5.IsWhole) (arg6 : Memref sig .tc .vmem S1x1536x768 .fp8e4m3) (harg6 : arg6.IsWhole) (arg7 : Memref sig .tc .vmem S1x768 .f32) (harg7 : arg7.IsWhole) (arg8 : Memref sig .tc .vmem S1x1024x1536 .bf16) (harg8 : arg8.IsWhole) (arg9 : Memref sig .tc .vmem S1024x1536 .f32) (harg9 : arg9.IsWhole) (arg10 : Memref sig .tc .vmem S1024x1536 .f32) (harg10 : arg10.IsWhole) (arg11 : Memref sig .tc .vmem S8x1536 .f32) (harg11 : arg11.IsWhole) (hc0 : ¬cond0_0 i) (hc1 : ¬cond0_1 i)
    (x0 : Vec F S1x1024x768 .fp8e5m2) (x1 : Vec F S1x1024x24 .f32) (x2 : Vec F S1x1536x768 .fp8e4m3) (x3 : Vec F S1x1536x768 .fp8e4m3) (x4 : Vec F S1x768 .f32) (xo : Vec F S1x1024x1536 .bf16) (xs0 : Vec F S1024x1536 .f32) (xs1 : Vec F S1024x1536 .f32) (xs2 : Vec F S8x1536 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (xs0) ∗ owns (c : Thread nD τ) arg10 fullShare (xs1) ∗ owns (c : Thread nD τ) arg11 fullShare (xs2)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (k0_pay4 (k0_pay9 x0 x1) (k0_pay10 x4) xs0 x2) ∗ owns (c : Thread nD τ) arg10 fullShare (k0_pay5 (k0_pay9 x0 x1) (k0_pay10 x4) xs1 x3) ∗ owns (c : Thread nD τ) arg11 fullShare (xs2)) -∗ K ⟨⟩))
          ⊢ wp frame (wpE (defs₀ (F := F)) Variants.none c none) E (cc0_dx i arg3 harg3 arg4 harg4 arg5 harg5 arg6 harg6 arg7 harg7 arg8 harg8 arg9 harg9 arg10 harg10 arg11 harg11) K := by
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; swap; · iexact HS0
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS1]
    · iexists _; isplitr; swap; · iexact HS1
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    · iexists _; isplitr; · ipureintro; exact harg11.read_unread _
      iexact HS2

set_option maxHeartbeats 1000000 in
/-- The dx body at the last point of a row in the first row block of a batch entry: the carry is zeroed, the output block is written, and the carry becomes the second accumulator's first rows. -/
theorem dxRun_C (c : Dev nD) (i : grid0.Coords) (arg3 : Memref sig .tc .vmem S1x1024x768 .fp8e5m2) (harg3 : arg3.IsWhole) (arg4 : Memref sig .tc .vmem S1x1024x24 .f32) (harg4 : arg4.IsWhole) (arg5 : Memref sig .tc .vmem S1x1536x768 .fp8e4m3) (harg5 : arg5.IsWhole) (arg6 : Memref sig .tc .vmem S1x1536x768 .fp8e4m3) (harg6 : arg6.IsWhole) (arg7 : Memref sig .tc .vmem S1x768 .f32) (harg7 : arg7.IsWhole) (arg8 : Memref sig .tc .vmem S1x1024x1536 .bf16) (harg8 : arg8.IsWhole) (arg9 : Memref sig .tc .vmem S1024x1536 .f32) (harg9 : arg9.IsWhole) (arg10 : Memref sig .tc .vmem S1024x1536 .f32) (harg10 : arg10.IsWhole) (arg11 : Memref sig .tc .vmem S8x1536 .f32) (harg11 : arg11.IsWhole) (hc0 : ¬cond0_0 i) (hc1 : cond0_1 i) (hc2 : cond0_2 i)
    (x0 : Vec F S1x1024x768 .fp8e5m2) (x1 : Vec F S1x1024x24 .f32) (x2 : Vec F S1x1536x768 .fp8e4m3) (x3 : Vec F S1x1536x768 .fp8e4m3) (x4 : Vec F S1x768 .f32) (xo : Vec F S1x1024x1536 .bf16) (xs0 : Vec F S1024x1536 .f32) (xs1 : Vec F S1024x1536 .f32) (xs2 : Vec F S8x1536 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (xs0) ∗ owns (c : Thread nD τ) arg10 fullShare (xs1) ∗ owns (c : Thread nD τ) arg11 fullShare (xs2)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay7 (k0_pay5 (k0_pay9 x0 x1) (k0_pay10 x4) xs1 x3) (row0 k0_pay6) (k0_pay4 (k0_pay9 x0 x1) (k0_pay10 x4) xs0 x2)) ∗ owns (c : Thread nD τ) arg9 fullShare (k0_pay4 (k0_pay9 x0 x1) (k0_pay10 x4) xs0 x2) ∗ owns (c : Thread nD τ) arg10 fullShare (k0_pay5 (k0_pay9 x0 x1) (k0_pay10 x4) xs1 x3) ∗ owns (c : Thread nD τ) arg11 fullShare (k0_pay8 (k0_pay5 (k0_pay9 x0 x1) (k0_pay10 x4) xs1 x3))) -∗ K ⟨⟩))
          ⊢ wp frame (wpE (defs₀ (F := F)) Variants.none c none) E (cc0_dx i arg3 harg3 arg4 harg4 arg5 harg5 arg6 harg6 arg7 harg7 arg8 harg8 arg9 harg9 arg10 harg10 arg11 harg11) K := by
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      sl_unfold_words
      rw [read_writes_unit_zero (S := S1x1024x1536) hz3]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS0]
    · iexists _; isplitr; swap; · iexact HS0
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS1]
    · iexists _; isplitr; swap; · iexact HS1
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    · iexists _; isplitr; swap; · iexact HS2
      ipureintro
      sl_unfold_words
      rw [read_writes_unit_zero (S := S8x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)

set_option maxHeartbeats 1000000 in
/-- The dx body at the last point of a row in the second row block: the output block is written with the carry found, and the carry becomes the second accumulator's first rows. -/
theorem dxRun_D (c : Dev nD) (i : grid0.Coords) (arg3 : Memref sig .tc .vmem S1x1024x768 .fp8e5m2) (harg3 : arg3.IsWhole) (arg4 : Memref sig .tc .vmem S1x1024x24 .f32) (harg4 : arg4.IsWhole) (arg5 : Memref sig .tc .vmem S1x1536x768 .fp8e4m3) (harg5 : arg5.IsWhole) (arg6 : Memref sig .tc .vmem S1x1536x768 .fp8e4m3) (harg6 : arg6.IsWhole) (arg7 : Memref sig .tc .vmem S1x768 .f32) (harg7 : arg7.IsWhole) (arg8 : Memref sig .tc .vmem S1x1024x1536 .bf16) (harg8 : arg8.IsWhole) (arg9 : Memref sig .tc .vmem S1024x1536 .f32) (harg9 : arg9.IsWhole) (arg10 : Memref sig .tc .vmem S1024x1536 .f32) (harg10 : arg10.IsWhole) (arg11 : Memref sig .tc .vmem S8x1536 .f32) (harg11 : arg11.IsWhole) (hc0 : ¬cond0_0 i) (hc1 : cond0_1 i) (hc2 : ¬cond0_2 i)
    (x0 : Vec F S1x1024x768 .fp8e5m2) (x1 : Vec F S1x1024x24 .f32) (x2 : Vec F S1x1536x768 .fp8e4m3) (x3 : Vec F S1x1536x768 .fp8e4m3) (x4 : Vec F S1x768 .f32) (xo : Vec F S1x1024x1536 .bf16) (xs0 : Vec F S1024x1536 .f32) (xs1 : Vec F S1024x1536 .f32) (xs2 : Vec F S8x1536 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (xo) ∗ owns (c : Thread nD τ) arg9 fullShare (xs0) ∗ owns (c : Thread nD τ) arg10 fullShare (xs1) ∗ owns (c : Thread nD τ) arg11 fullShare (xs2)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay7 (k0_pay5 (k0_pay9 x0 x1) (k0_pay10 x4) xs1 x3) (row0 xs2) (k0_pay4 (k0_pay9 x0 x1) (k0_pay10 x4) xs0 x2)) ∗ owns (c : Thread nD τ) arg9 fullShare (k0_pay4 (k0_pay9 x0 x1) (k0_pay10 x4) xs0 x2) ∗ owns (c : Thread nD τ) arg10 fullShare (k0_pay5 (k0_pay9 x0 x1) (k0_pay10 x4) xs1 x3) ∗ owns (c : Thread nD τ) arg11 fullShare (k0_pay8 (k0_pay5 (k0_pay9 x0 x1) (k0_pay10 x4) xs1 x3))) -∗ K ⟨⟩))
          ⊢ wp frame (wpE (defs₀ (F := F)) Variants.none c none) E (cc0_dx i arg3 harg3 arg4 harg4 arg5 harg5 arg6 harg6 arg7 harg7 arg8 harg8 arg9 harg9 arg10 harg10 arg11 harg11) K := by
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      sl_unfold_words
      rw [read_writes_unit_zero (S := S1x1024x1536) hz3]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS0]
    · iexists _; isplitr; swap; · iexact HS0
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    isplitl [HS1]
    · iexists _; isplitr; swap; · iexact HS1
      ipureintro
      sl_unfold_words
      rw [read_writes_unit_zero (S := S1024x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)
    · iexists _; isplitr; swap; · iexact HS2
      ipureintro
      sl_unfold_words
      rw [read_writes_unit_zero (S := S8x1536) hz2]
      simp only [View.readAt_eq_ld, harg3.read_unread, harg4.read_unread, harg5.read_unread, harg6.read_unread, harg7.read_unread, harg9.read_unread, harg10.read_unread, harg11.read_unread, View.ld_unit_zero (S := S1x1024x768) hz3, View.ld_unit_zero (S := S1x1024x24) hz3, View.ld_unit_zero (S := S1x1536x768) hz3, View.ld_unit_zero (S := S1x768) hz2, View.ld_unit_zero (S := S1024x1536) hz2, View.ld_unit_zero (S := S8x1536) hz2, View.readCov_cons_toLoadRect]
      try exact congrArg (fun r => k0_pay7 _ r _) (rc8 _ _ _)

end Cert.KernelIdeal.Gen

end
-- ==== Proof.KernelIdeal.Dx.lean ====
module

public import proofs.«01_k».proof.Proof.KernelIdeal.DxRuns
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the dx region finds it. -/
def xblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, for any proof data over these arrays that leave it in place. -/
theorem before0_0_of {c : Dev nD} (dat : Dat τ (Elt F) Unit ℕ (UR sig nD τ) ℕ cfg0 c) (hA : dat.A 0 = V c (Pipeline.arrRef spec0 0))
    (hafter : ∀ t, dat.after 0 t = xblk V c 0 t) (t : Fin cfg0.N) (d) : dat.before 0 t d = xblk V c 0 t :=
  (dat.before_in_eq_fetched 0 rfl (fun _ => rfl) (fun _ _ _ => rfl) (fun t => by rw [hafter]; unfold Dat.blockOf xblk; rw [hA]; try rfl) t d).trans
    (by unfold Dat.fetched Dat.blockOf xblk; rw [hA]; try rfl)
/-- Input window 1 holds its block at every point, for any proof data over these arrays that leave it in place. -/
theorem before0_1_of {c : Dev nD} (dat : Dat τ (Elt F) Unit ℕ (UR sig nD τ) ℕ cfg0 c) (hA : dat.A 1 = V c (Pipeline.arrRef spec0 1))
    (hafter : ∀ t, dat.after 1 t = xblk V c 1 t) (t : Fin cfg0.N) (d) : dat.before 1 t d = xblk V c 1 t :=
  (dat.before_in_eq_fetched 1 rfl (fun _ => rfl) (fun _ _ _ => rfl) (fun t => by rw [hafter]; unfold Dat.blockOf xblk; rw [hA]; try rfl) t d).trans
    (by unfold Dat.fetched Dat.blockOf xblk; rw [hA]; try rfl)
/-- Input window 2 holds its block at every point, for any proof data over these arrays that leave it in place. -/
theorem before0_2_of {c : Dev nD} (dat : Dat τ (Elt F) Unit ℕ (UR sig nD τ) ℕ cfg0 c) (hA : dat.A 2 = V c (Pipeline.arrRef spec0 2))
    (hafter : ∀ t, dat.after 2 t = xblk V c 2 t) (t : Fin cfg0.N) (d) : dat.before 2 t d = xblk V c 2 t :=
  (dat.before_in_eq_fetched 2 rfl (fun _ => rfl) (fun _ _ _ => rfl) (fun t => by rw [hafter]; unfold Dat.blockOf xblk; rw [hA]; try rfl) t d).trans
    (by unfold Dat.fetched Dat.blockOf xblk; rw [hA]; try rfl)
/-- Input window 3 holds its block at every point, for any proof data over these arrays that leave it in place. -/
theorem before0_3_of {c : Dev nD} (dat : Dat τ (Elt F) Unit ℕ (UR sig nD τ) ℕ cfg0 c) (hA : dat.A 3 = V c (Pipeline.arrRef spec0 3))
    (hafter : ∀ t, dat.after 3 t = xblk V c 3 t) (t : Fin cfg0.N) (d) : dat.before 3 t d = xblk V c 3 t :=
  (dat.before_in_eq_fetched 3 rfl (fun _ => rfl) (fun _ _ _ => rfl) (fun t => by rw [hafter]; unfold Dat.blockOf xblk; rw [hA]; try rfl) t d).trans
    (by unfold Dat.fetched Dat.blockOf xblk; rw [hA]; try rfl)
/-- Input window 4 holds its block at every point, for any proof data over these arrays that leave it in place. -/
theorem before0_4_of {c : Dev nD} (dat : Dat τ (Elt F) Unit ℕ (UR sig nD τ) ℕ cfg0 c) (hA : dat.A 4 = V c (Pipeline.arrRef spec0 4))
    (hafter : ∀ t, dat.after 4 t = xblk V c 4 t) (t : Fin cfg0.N) (d) : dat.before 4 t d = xblk V c 4 t :=
  (dat.before_in_eq_fetched 4 rfl (fun _ => rfl) (fun _ _ _ => rfl) (fun t => by rw [hafter]; unfold Dat.blockOf xblk; rw [hA]; try rfl) t d).trans
    (by unfold Dat.fetched Dat.blockOf xblk; rw [hA]; try rfl)
abbrev ms0_0 (t : Fin cfg0.N) : Memref sig .tc .vmem S1x1024x768 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x24 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536x768 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536x768 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1536 .bf16 := win0_5.stage (cfg0.slots t 5)
abbrev hs0_5 (t : Fin cfg0.N) : (ms0_5 t).IsWhole := hstage0_5 ((cfg0.slots t 5).cast nbuf0_5)
/-- The scratch operands: the two accumulators and the carry. -/
abbrev scM0_0 : Memref sig .tc .vmem S1024x1536 .f32 := Memref.whole cc0_scratch0
abbrev scM0_1 : Memref sig .tc .vmem S1024x1536 .f32 := Memref.whole cc0_scratch1
abbrev scM0_2 : Memref sig .tc .vmem S8x1536 .f32 := Memref.whole cc0_scratch2

/-! ## What the body computes, point by point -/

/-- The gradient block of a point, dequantised. -/
def gOf (c : Dev nD) (t : Fin cfg0.N) : FVec F S1024x768 .bf16 := k0_pay9 (xblk V c 0 t) (xblk V c 1 t)
/-- The weight scales of a point. -/
def wsOf (c : Dev nD) (t : Fin cfg0.N) : FVec F S1x768 .f32 := k0_pay10 (xblk V c 4 t)

/-- The first accumulator after point `n`: zeroed at the first point of a row of eight, each point's product added. -/
def y0At (c : Dev nD) : (n : ℕ) → n < cfg0.N → Vec F S1024x1536 .f32
  | 0, hn => k0_pay4 (gOf V c ⟨0, hn⟩) (wsOf V c ⟨0, hn⟩) k0_pay2 (xblk V c 2 ⟨0, hn⟩)
  | n + 1, hn => k0_pay4 (gOf V c ⟨n + 1, hn⟩) (wsOf V c ⟨n + 1, hn⟩) (if (n + 1) % 8 = 0 then k0_pay2 else y0At c n (Nat.lt_of_succ_lt hn)) (xblk V c 2 ⟨n + 1, hn⟩)

/-- The second accumulator after point `n`. -/
def y1At (c : Dev nD) : (n : ℕ) → n < cfg0.N → Vec F S1024x1536 .f32
  | 0, hn => k0_pay5 (gOf V c ⟨0, hn⟩) (wsOf V c ⟨0, hn⟩) k0_pay3 (xblk V c 3 ⟨0, hn⟩)
  | n + 1, hn => k0_pay5 (gOf V c ⟨n + 1, hn⟩) (wsOf V c ⟨n + 1, hn⟩) (if (n + 1) % 8 = 0 then k0_pay3 else y1At c n (Nat.lt_of_succ_lt hn)) (xblk V c 3 ⟨n + 1, hn⟩)

/-- At the first phase the first accumulator is one step from zero. -/
theorem y0At_first (c : Dev nD) (t : Fin cfg0.N) (h : t.val % 8 = 0) :
    y0At V c t.val t.isLt = k0_pay4 (gOf V c t) (wsOf V c t) k0_pay2 (xblk V c 2 t) := by
  obtain ⟨n, hn⟩ := t
  cases n with
  | zero => rfl
  | succ n => show k0_pay4 _ _ (if (n + 1) % 8 = 0 then _ else _) _ = _; rw [if_pos h]
/-- At the first phase the second accumulator is one step from zero. -/
theorem y1At_first (c : Dev nD) (t : Fin cfg0.N) (h : t.val % 8 = 0) :
    y1At V c t.val t.isLt = k0_pay5 (gOf V c t) (wsOf V c t) k0_pay3 (xblk V c 3 t) := by
  obtain ⟨n, hn⟩ := t
  cases n with
  | zero => rfl
  | succ n => show k0_pay5 _ _ (if (n + 1) % 8 = 0 then _ else _) _ = _; rw [if_pos h]
/-- At any other phase the first accumulator is one step from what the point before left. -/
theorem y0At_next (c : Dev nD) (t : Fin cfg0.N) (h : ¬t.val % 8 = 0) :
    y0At V c t.val t.isLt = k0_pay4 (gOf V c t) (wsOf V c t) (y0At V c (t.val - 1) (Nat.lt_of_le_of_lt (Nat.sub_le _ _) t.isLt)) (xblk V c 2 t) := by
  obtain ⟨n, hn⟩ := t
  cases n with
  | zero => exact absurd (Nat.zero_mod _) h
  | succ n => show k0_pay4 _ _ (if (n + 1) % 8 = 0 then _ else _) _ = _; rw [if_neg h]; rfl
/-- At any other phase the second accumulator is one step from what the point before left. -/
theorem y1At_next (c : Dev nD) (t : Fin cfg0.N) (h : ¬t.val % 8 = 0) :
    y1At V c t.val t.isLt = k0_pay5 (gOf V c t) (wsOf V c t) (y1At V c (t.val - 1) (Nat.lt_of_le_of_lt (Nat.sub_le _ _) t.isLt)) (xblk V c 3 t) := by
  obtain ⟨n, hn⟩ := t
  cases n with
  | zero => exact absurd (Nat.zero_mod _) h
  | succ n => show k0_pay5 _ _ (if (n + 1) % 8 = 0 then _ else _) _ = _; rw [if_neg h]; rfl

/-- The accumulator depends on the point's number only. -/
theorem y1At_congr (c : Dev nD) {n k : ℕ} (e : n = k) (hn : n < cfg0.N) (hk : k < cfg0.N) : y1At V c n hn = y1At V c k hk := by
  subst e; rfl

/-- The carry a point reads: zeros in the first row block of a batch entry, else the first rows of the second
    accumulator at the end of the row block before. -/
def crAt (c : Dev nD) (t : Fin cfg0.N) : Vec F S8x1536 .f32 :=
  if t.val / 8 % 2 = 0 then k0_pay6 else k0_pay8 (y1At V c (t.val - 8) (Nat.lt_of_le_of_lt (Nat.sub_le _ _) t.isLt))

/-- The output block the last point of a row writes. -/
def dxBlk (c : Dev nD) (t : Fin cfg0.N) : Vec F S1x1024x1536 .bf16 :=
  k0_pay7 (y1At V c t.val t.isLt) (row0 (crAt V c t)) (y0At V c t.val t.isLt)

/-! ## The invariant and the proof data -/

/-- What the scratch holds before point `n`: inside a row of eight the accumulators are those of the point before;
    from the second row on, the carry is the first rows of the second accumulator at the end of the row before. -/
def DxInv (c : Dev nD) (n : ℕ) (h : n ≤ cfg0.N) (y0 y1 : Vec F S1024x1536 .f32) (cr : Vec F S8x1536 .f32) : Prop :=
  (∀ hn : n % 8 ≠ 0, y0 = y0At V c (n - 1) (by have : n ≠ 0 := fun e => hn (by rw [e]); omega)
      ∧ y1 = y1At V c (n - 1) (by have : n ≠ 0 := fun e => hn (by rw [e]); omega))
    ∧ (∀ hn : 8 ≤ n, cr = k0_pay8 (y1At V c (n / 8 * 8 - 1) (by omega)))

/-- The scoped buffers that are neither the dx region's staging nor its scratch, each whole at some contents. -/
def dxRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant before point `n`: the scratch at contents as `DxInv` says, and the generator register at some state. -/
def PhiDx (c : Dev nD) (n : ℕ) (h : n ≤ cfg0.N) : sProp 𝕄 :=
  iprop(∃ y0 y1 cr, ⌜DxInv V c n h y0 y1 cr⌝ ∗ owns (c : Thread nD τ) scM0_0 fullShare y0 ∗ owns (c : Thread nD τ) scM0_1 fullShare y1
    ∗ owns (c : Thread nD τ) scM0_2 fullShare cr ∗ dxRest c ∗ (∃ r, prngReg c r))

/-- The dx region's proof data over the arrays it finds. -/
def datDx (c : Dev nD) : Dat τ (Elt F) Unit ℕ (UR sig nD τ) ℕ cfg0 c where
  A w := V c (Pipeline.arrRef spec0 w)
  after w t := match w with
    | ⟨0, _⟩ => xblk V c 0 t
    | ⟨1, _⟩ => xblk V c 1 t
    | ⟨2, _⟩ => xblk V c 2 t
    | ⟨3, _⟩ => xblk V c 3 t
    | ⟨4, _⟩ => xblk V c 4 t
    | ⟨5, _⟩ => dxBlk V c t
  Φ t := PhiDx V c t.val (Nat.le_of_lt_succ t.isLt)
  q w := Pipeline.shareOf spec0 w
  owed _ := 0

/-- The proof data starts from the arrays the region finds. -/
theorem datDx_A (c : Dev nD) (w : Fin cfg0.W) : (datDx V c).A w = V c (Pipeline.arrRef spec0 w) := by
  dsimp only [datDx]
/-- Before the body at a point, window 0 holds its block. -/
theorem dxBefore_0 (c : Dev nD) (t : Fin cfg0.N) (d) : (datDx V c).before 0 t d = xblk V c 0 t :=
  before0_0_of V (datDx V c) (datDx_A V c 0) (fun _ => by dsimp only [datDx]) t d
/-- After the body at a point, window 0 still holds its block. -/
theorem dxAfter_0 (c : Dev nD) (t : Fin cfg0.N) : (datDx V c).after 0 t = xblk V c 0 t := by dsimp only [datDx]
/-- Before the body at a point, window 1 holds its block. -/
theorem dxBefore_1 (c : Dev nD) (t : Fin cfg0.N) (d) : (datDx V c).before 1 t d = xblk V c 1 t :=
  before0_1_of V (datDx V c) (datDx_A V c 1) (fun _ => by dsimp only [datDx]) t d
/-- After the body at a point, window 1 still holds its block. -/
theorem dxAfter_1 (c : Dev nD) (t : Fin cfg0.N) : (datDx V c).after 1 t = xblk V c 1 t := by dsimp only [datDx]
/-- Before the body at a point, window 2 holds its block. -/
theorem dxBefore_2 (c : Dev nD) (t : Fin cfg0.N) (d) : (datDx V c).before 2 t d = xblk V c 2 t :=
  before0_2_of V (datDx V c) (datDx_A V c 2) (fun _ => by dsimp only [datDx]) t d
/-- After the body at a point, window 2 still holds its block. -/
theorem dxAfter_2 (c : Dev nD) (t : Fin cfg0.N) : (datDx V c).after 2 t = xblk V c 2 t := by dsimp only [datDx]
/-- Before the body at a point, window 3 holds its block. -/
theorem dxBefore_3 (c : Dev nD) (t : Fin cfg0.N) (d) : (datDx V c).before 3 t d = xblk V c 3 t :=
  before0_3_of V (datDx V c) (datDx_A V c 3) (fun _ => by dsimp only [datDx]) t d
/-- After the body at a point, window 3 still holds its block. -/
theorem dxAfter_3 (c : Dev nD) (t : Fin cfg0.N) : (datDx V c).after 3 t = xblk V c 3 t := by dsimp only [datDx]
/-- Before the body at a point, window 4 holds its block. -/
theorem dxBefore_4 (c : Dev nD) (t : Fin cfg0.N) (d) : (datDx V c).before 4 t d = xblk V c 4 t :=
  before0_4_of V (datDx V c) (datDx_A V c 4) (fun _ => by dsimp only [datDx]) t d
/-- After the body at a point, window 4 still holds its block. -/
theorem dxAfter_4 (c : Dev nD) (t : Fin cfg0.N) : (datDx V c).after 4 t = xblk V c 4 t := by dsimp only [datDx]
/-- At the last phase the result's window holds the point's block. -/
theorem dxAfter_5 (c : Dev nD) (t : Fin cfg0.N) : (datDx V c).after 5 t = dxBlk V c t := by dsimp only [datDx]

/-- What the body is called with at point `t`, the windows one by one, -/
def dxPre (c : Dev nD) (t : Fin cfg0.N) : sProp 𝕄 :=
  iprop((datDx V c).Φ t.castSucc ∗ (datDx V c).owesAt () t.castSucc
    ∗ (∃ d, owns (c : Thread nD τ) (ms0_0 t) fullShare ((datDx V c).before 0 t d))
    ∗ (∃ d, owns (c : Thread nD τ) (ms0_1 t) fullShare ((datDx V c).before 1 t d))
    ∗ (∃ d, owns (c : Thread nD τ) (ms0_2 t) fullShare ((datDx V c).before 2 t d))
    ∗ (∃ d, owns (c : Thread nD τ) (ms0_3 t) fullShare ((datDx V c).before 3 t d))
    ∗ (∃ d, owns (c : Thread nD τ) (ms0_4 t) fullShare ((datDx V c).before 4 t d))
    ∗ (∃ d, owns (c : Thread nD τ) (ms0_5 t) fullShare ((datDx V c).before 5 t d)))

/-- and what it returns. -/
def dxPost (c : Dev nD) (t : Fin cfg0.N) : sProp 𝕄 :=
  iprop((datDx V c).Φ t.succ ∗ (datDx V c).owesAt () t.succ
    ∗ owns (c : Thread nD τ) (ms0_0 t) fullShare ((datDx V c).after 0 t)
    ∗ owns (c : Thread nD τ) (ms0_1 t) fullShare ((datDx V c).after 1 t)
    ∗ owns (c : Thread nD τ) (ms0_2 t) fullShare ((datDx V c).after 2 t)
    ∗ owns (c : Thread nD τ) (ms0_3 t) fullShare ((datDx V c).after 3 t)
    ∗ owns (c : Thread nD τ) (ms0_4 t) fullShare ((datDx V c).after 4 t)
    ∗ (datDx V c).leavesExact 5 t)

/-- The output window is idle at every point but the last of a row. -/
theorem dxIdle (t : Fin cfg0.N) (h : ¬t.val % 8 = 7) : cfg0.idle 5 (cfg0.grid.coords t) = true := by
  show idle0 5 (grid0.coords t) = true
  have : ¬k0_cond2 (grid0.coords t) = 1#1 := fun e => h ((hcond0_1 t).mp e)
  show (!(k0_cond2 (grid0.coords t) == 1)) = true
  rw [Bool.not_eq_true', beq_eq_false_iff_ne]; exact this

/-- The result's window is in use at the last phase. -/
theorem dxLive (t : Fin cfg0.N) (h : t.val % 8 = 7) : cfg0.idle 5 (cfg0.grid.coords t) = false := by
  have : k0_cond2 (grid0.coords t) = 1#1 := (hcond0_1 t).mpr h
  show (!(k0_cond2 (grid0.coords t) == 1)) = false
  rw [Bool.not_eq_false', beq_iff_eq]; exact this

/-- The result's window is not flushed before the last phase. -/
theorem dxNoFlush (t : Fin cfg0.N) (h : ¬t.val % 8 = 7) : (cfg0.win 5).flush t = false :=
  Bool.eq_false_iff.mpr fun e => h ((flush0_5 t).mp e)

/-- The window hands back what it was handed where it is idle, -/
theorem dxLeaves_idle (c : Dev nD) (t : Fin cfg0.N) (h : ¬t.val % 8 = 7) :
    (datDx V c).leavesExact 5 t = iprop(∃ d, owns (c : Thread nD τ) (ms0_5 t) fullShare ((datDx V c).before 5 t d)) := by
  unfold Dat.leavesExact; rw [dxIdle t h, dxNoFlush t h]
/-- and the block at the last point of a row. -/
theorem dxLeaves_live (c : Dev nD) (t : Fin cfg0.N) (h : t.val % 8 = 7) :
    (datDx V c).leavesExact 5 t = owns (c : Thread nD τ) (ms0_5 t) fullShare (dxBlk V c t) := by
  unfold Dat.leavesExact; rw [dxLive t h, dxAfter_5]

/-- The invariant after a point that is not the last of its row: the accumulators are the point's, the carry as found. -/
theorem dxInv_mid (c : Dev nD) (t : Fin cfg0.N) (h : ¬t.val % 8 = 7) {y0 y1 : Vec F S1024x1536 .f32} {cr : Vec F S8x1536 .f32} {a0 a1 : Vec F S1024x1536 .f32}
    (hi : DxInv V c t.val (Nat.le_of_lt t.isLt) a0 a1 cr) (e0 : y0 = y0At V c t.val t.isLt) (e1 : y1 = y1At V c t.val t.isLt) :
    DxInv V c (t.val + 1) t.isLt y0 y1 cr := by
  refine ⟨fun _ => ⟨e0, e1⟩, fun hn => ?_⟩
  have h8 : 8 ≤ t.val := by omega
  rw [hi.2 h8]
  exact congrArg k0_pay8 (y1At_congr V c (by omega) _ _)

/-- The invariant after the last point of a row: the carry is the first rows of the point's second accumulator. -/
theorem dxInv_last (c : Dev nD) (t : Fin cfg0.N) (h : t.val % 8 = 7) {y0 y1 : Vec F S1024x1536 .f32} {cr : Vec F S8x1536 .f32}
    (e1 : cr = k0_pay8 (y1At V c t.val t.isLt)) :
    DxInv V c (t.val + 1) t.isLt y0 y1 cr := by
  refine ⟨fun hn => absurd (show (t.val + 1) % 8 = 0 by omega) hn, fun hn => ?_⟩
  rw [e1]; exact congrArg k0_pay8 (y1At_congr V c (by omega) _ _)

/-- The carry found at the last point of a second row block is the one the row block before left. -/
theorem dxInv_carry (c : Dev nD) (t : Fin cfg0.N) (h : t.val % 8 = 7) (h2 : ¬t.val / 8 % 2 = 0) {a0 a1 : Vec F S1024x1536 .f32} {cr : Vec F S8x1536 .f32}
    (hi : DxInv V c t.val (Nat.le_of_lt t.isLt) a0 a1 cr) : cr = crAt V c t := by
  unfold crAt; rw [if_neg h2, hi.2 (by omega)]
  exact congrArg k0_pay8 (y1At_congr V c (by omega) _ _)

set_option maxHeartbeats 1600000 in
/-- The body at any point, by the four cases of its conditionals. -/
theorem dx_sound (c : Dev nD) (t : Fin cfg0.N) :
    dxPre V c t ⊢ wp frame (wpE (defs₀ (F := F)) Variants.none c none) Set.univ (bodyAt0 t) (fun _ => dxPost V c t) := by
  unfold dxPre dxPost bodyAt0
  simp only [dxBefore_0, dxBefore_1, dxBefore_2, dxBefore_3, dxBefore_4, dxAfter_0, dxAfter_1, dxAfter_2, dxAfter_3, dxAfter_4]
  rw [show (datDx V c).owesAt () t.succ = (datDx V c).owesAt () t.castSucc from rfl]
  rw [show (datDx V c).Φ t.castSucc = PhiDx V c t.val (Nat.le_of_lt t.isLt) from rfl]
  rw [show (datDx V c).Φ t.succ = PhiDx V c (t.val + 1) t.isLt from rfl]
  rw [show PhiDx V c t.val (Nat.le_of_lt t.isLt) = iprop(∃ y0 y1 cr, ⌜DxInv V c t.val (Nat.le_of_lt t.isLt) y0 y1 cr⌝ ∗ owns (c : Thread nD τ) scM0_0 fullShare y0 ∗ owns (c : Thread nD τ) scM0_1 fullShare y1
    ∗ owns (c : Thread nD τ) scM0_2 fullShare cr ∗ dxRest c ∗ (∃ r, prngReg c r)) from rfl]
  have hN : t.val < 64 := lt_of_lt_of_eq t.isLt (show cfg0.N = 64 from N_0)
  by_cases h0 : t.val % 8 = 0
  · have h1 : ¬t.val % 8 = 7 := by omega
    rw [dxLeaves_idle V c t h1]
    iintro ⟨⟨%y0, %y1, %cr, %hi, HS0, HS1, HS2, HR, Hg⟩, Ho, ⟨%d0, H0⟩, ⟨%d1, H1⟩, ⟨%d2, H2⟩, ⟨%d3, H3⟩, ⟨%d4, H4⟩, ⟨%d5, H5⟩⟩
    iapply (dxRun_A c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) ((hcond0_0 t).mpr h0) (fun h => h1 ((hcond0_1 t).mp h)) (xblk V c 0 t) (xblk V c 1 t) (xblk V c 2 t) (xblk V c 3 t) (xblk V c 4 t) _ y0 y1 cr Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 HR Hg]
    · unfold PhiDx
      iexists _, _, _
      isplitr; swap
      · isplitl [HS0]; · iexact HS0
        isplitl [HS1]; · iexact HS1
        isplitl [HS2]; · iexact HS2
        isplitl [HR]; · iexact HR
        iexact Hg
      ipureintro
      exact dxInv_mid V c t h1 hi (y0At_first V c t h0).symm (y1At_first V c t h0).symm
    isplitl [Ho]; · iexact Ho
    isplitl [H0]; · iexact H0
    isplitl [H1]; · iexact H1
    isplitl [H2]; · iexact H2
    isplitl [H3]; · iexact H3
    isplitl [H4]; · iexact H4
    iexists _; iexact H5
  · have hp : ∀ {a0 a1 : Vec F S1024x1536 .f32} {cr : Vec F S8x1536 .f32}, DxInv V c t.val (Nat.le_of_lt t.isLt) a0 a1 cr → k0_pay4 (gOf V c t) (wsOf V c t) a0 (xblk V c 2 t) = y0At V c t.val t.isLt ∧ k0_pay5 (gOf V c t) (wsOf V c t) a1 (xblk V c 3 t) = y1At V c t.val t.isLt :=
      fun hi => ⟨by rw [y0At_next V c t h0, (hi.1 h0).1], by rw [y1At_next V c t h0, (hi.1 h0).2]⟩
    by_cases h1 : t.val % 8 = 7
    · rw [dxLeaves_live V c t h1]
      iintro ⟨⟨%y0, %y1, %cr, %hi, HS0, HS1, HS2, HR, Hg⟩, Ho, ⟨%d0, H0⟩, ⟨%d1, H1⟩, ⟨%d2, H2⟩, ⟨%d3, H3⟩, ⟨%d4, H4⟩, ⟨%d5, H5⟩⟩
      have e0 := (hp hi).1
      have e1 := (hp hi).2
      by_cases h2 : t.val / 8 % 2 = 0
      · iapply (dxRun_C c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) (fun h => h0 ((hcond0_0 t).mp h)) ((hcond0_1 t).mpr h1) ((hcond0_2 t).mpr h2) (xblk V c 0 t) (xblk V c 1 t) (xblk V c 2 t) (xblk V c 3 t) (xblk V c 4 t) _ y0 y1 cr Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 HR Hg]
        · unfold PhiDx
          iexists _, _, _
          isplitr; swap
          · isplitl [HS0]; · iexact HS0
            isplitl [HS1]; · iexact HS1
            isplitl [HS2]; · iexact HS2
            isplitl [HR]; · iexact HR
            iexact Hg
          ipureintro
          exact dxInv_last V c t h1 (congrArg k0_pay8 e1)
        isplitl [Ho]; · iexact Ho
        isplitl [H0]; · iexact H0
        isplitl [H1]; · iexact H1
        isplitl [H2]; · iexact H2
        isplitl [H3]; · iexact H3
        isplitl [H4]; · iexact H4
        rw [show dxBlk V c t = k0_pay7 (k0_pay5 (k0_pay9 (xblk V c 0 t) (xblk V c 1 t)) (k0_pay10 (xblk V c 4 t)) y1 (xblk V c 3 t)) (row0 k0_pay6) (k0_pay4 (k0_pay9 (xblk V c 0 t) (xblk V c 1 t)) (k0_pay10 (xblk V c 4 t)) y0 (xblk V c 2 t)) from by
          unfold dxBlk; rw [← e0, ← e1, show crAt V c t = k0_pay6 from if_pos h2]; rfl]
        iexact H5
      · iapply (dxRun_D c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (xblk V c 0 t) (xblk V c 1 t) (xblk V c 2 t) (xblk V c 3 t) (xblk V c 4 t) _ y0 y1 cr Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, HS2⟩
        isplitl [HS0 HS1 HS2 HR Hg]
        · unfold PhiDx
          iexists _, _, _
          isplitr; swap
          · isplitl [HS0]; · iexact HS0
            isplitl [HS1]; · iexact HS1
            isplitl [HS2]; · iexact HS2
            isplitl [HR]; · iexact HR
            iexact Hg
          ipureintro
          exact dxInv_last V c t h1 (congrArg k0_pay8 e1)
        isplitl [Ho]; · iexact Ho
        isplitl [H0]; · iexact H0
        isplitl [H1]; · iexact H1
        isplitl [H2]; · iexact H2
        isplitl [H3]; · iexact H3
        isplitl [H4]; · iexact H4
        rw [show dxBlk V c t = k0_pay7 (k0_pay5 (k0_pay9 (xblk V c 0 t) (xblk V c 1 t)) (k0_pay10 (xblk V c 4 t)) y1 (xblk V c 3 t)) (row0 cr) (k0_pay4 (k0_pay9 (xblk V c 0 t) (xblk V c 1 t)) (k0_pay10 (xblk V c 4 t)) y0 (xblk V c 2 t)) from by
          unfold dxBlk; rw [← e0, ← e1, ← dxInv_carry V c t h1 h2 hi]; rfl]
        iexact H5
    · rw [dxLeaves_idle V c t h1]
      iintro ⟨⟨%y0, %y1, %cr, %hi, HS0, HS1, HS2, HR, Hg⟩, Ho, ⟨%d0, H0⟩, ⟨%d1, H1⟩, ⟨%d2, H2⟩, ⟨%d3, H3⟩, ⟨%d4, H4⟩, ⟨%d5, H5⟩⟩
      have e0 := (hp hi).1
      have e1 := (hp hi).2
      iapply (dxRun_B c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) (fun h => h0 ((hcond0_0 t).mp h)) (fun h => h1 ((hcond0_1 t).mp h)) (xblk V c 0 t) (xblk V c 1 t) (xblk V c 2 t) (xblk V c 3 t) (xblk V c 4 t) _ y0 y1 cr Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · unfold PhiDx
        iexists _, _, _
        isplitr; swap
        · isplitl [HS0]; · iexact HS0
          isplitl [HS1]; · iexact HS1
          isplitl [HS2]; · iexact HS2
          isplitl [HR]; · iexact HR
          iexact Hg
        ipureintro
        exact dxInv_mid V c t h1 hi e0 e1
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row is the body at the point. -/
theorem dx_row (t : Fin cfg0.N) :
    defs₀ (F := F) .tc cfg0.body (cfg0.bodyArgs t (cfg0.slots t)) = bodyAt0 t := by
  unfold defs₀; rw [Defs.onTc_tc]

/-- The library's body obligation for the dx region. -/
theorem dx_obligation (c : Dev nD) : BodyObligation (datDx V c) (defs₀ (F := F)) Variants.none () Set.univ := fun t => by
  rw [bigSep_W0, bigSep_W0, dx_row]
  exact triple_restated (dx_sound V c t) rfl .rfl fun _ => .rfl

/-- The scoped rest and the generator register are the invariant before the first point, -/
theorem dx_hin (c : Dev nD) : iprop((∃ r, prngReg c r) ∗ Pipeline.scopedRest spec0 c) ⊢ (datDx V c).Φ 0 := by
  rw [show (datDx V c).Φ 0 = PhiDx V c 0 (Nat.zero_le _) from rfl, scopedRest0_eq]
  unfold PhiDx dxRest
  simp only [scM0_0, scM0_1, scM0_2, owns_whole]
  iintro ⟨Hg, ⟨%a, HS0⟩, ⟨%b, HS1⟩, ⟨%d, HS2⟩, HR⟩
  iexists a, b, d
  isplitr
  · ipureintro
    exact ⟨fun hn => absurd rfl hn, fun hn => absurd hn (by omega)⟩
  isplitl [HS0]; · iexact HS0
  isplitl [HS1]; · iexact HS1
  isplitl [HS2]; · iexact HS2
  isplitl [HR]; · iexact HR
  iexact Hg

/-- and are given back by the invariant after the last. -/
theorem dx_hout (c : Dev nD) : (datDx V c).Φ (Fin.last cfg0.N) ⊢ iprop((∃ r, prngReg c r) ∗ Pipeline.scopedRest spec0 c) := by
  rw [show (datDx V c).Φ (Fin.last cfg0.N) = PhiDx V c cfg0.N (Nat.le_refl _) from rfl, scopedRest0_eq]
  unfold PhiDx
  unfold dxRest
  simp only [scM0_0, scM0_1, scM0_2, owns_whole]
  iintro ⟨%a, %b, %d, %_, HS0, HS1, HS2, HR, Hg⟩
  isplitl [Hg]; · iexact Hg
  isplitl [HS0]; · iexists a; iexact HS0
  isplitl [HS1]; · iexists b; iexact HS1
  isplitl [HS2]; · iexists d; iexact HS2
  iexact HR

end Cert.KernelIdeal.Gen

end
-- ==== Proof.KernelIdeal.DwRuns.lean ====
module

public import proofs.«01_k».proof.Proof.KernelIdeal.DxRuns
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the dw body's conditional: the point is the first of its row of eight. -/
abbrev cond1_0 (i : grid1.Coords) : Prop := (Scalar.cmpi .ne (Scalar.extui (Scalar.cmpi .eq (BitVec.ofNat 32 (i 1).val) 0#32)) 0#32) = 1#1
/-- It holds at the points that are 0 modulo 8. -/
theorem hcond1_0 (t : Fin cfg1.N) : cond1_0 (grid1.coords t) ↔ t.val % 8 = 0 := by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [cond1_0, e0, e1]
    word_cmp

/-- The rectangle of the first weight matrix in the dw block. -/
abbrev dwR0 : Rect S2x1x1536x768 := Rect.unit (s := S2x1x1536x768) ![0, 0, 0, 0] S1x1x1536x768.size inb_S2x1x1536x768_S1x1x1536x768_0_0_0_0
/-- The rectangle of the second weight matrix in the dw block. -/
abbrev dwR1 : Rect S2x1x1536x768 := Rect.unit (s := S2x1x1536x768) ![1, 0, 0, 0] S1x1x1536x768.size inb_S2x1x1536x768_S1x1x1536x768_1_0_0_0

/-- What a point of the dw kernel leaves in its block when it found `o` there: each half has that half's product added. -/
def dwStep (x0 : Vec F S1024x1536 .bf16) (x1 : Vec F S1024x1536 .bf16) (x2 : Vec F S1024x768 .fp8e5m2) (x3 : Vec F S1024x24 .f32) (o : Vec F S2x1x1536x768 .f32) : Vec F S2x1x1536x768 .f32 :=
  View.canon (Val := Elt F) [(⟨dwR1, k1_pay2 (k1_pay3 x2 x3) (View.ld o dwR1) x1⟩ : View.Piece (Elt F) S2x1x1536x768 .f32), ⟨dwR0, k1_pay1 (k1_pay3 x2 x3) (View.ld o dwR0) x0⟩]

/-- Each index of the result block lies in one of the two slabs. -/
theorem dw_cover (y : S2x1x1536x768.Idx) : y ∈ (dwR1 : Rect S2x1x1536x768).set ∨ y ∈ (dwR0 : Rect S2x1x1536x768).set := by
  rw [Rect.mem_set_unit, Rect.mem_set_unit]
  have h0 : (y 0).val < 2 := (y 0).isLt
  have h1 : (y 1).val < 1 := (y 1).isLt
  have h2 : (y 2).val < 1536 := (y 2).isLt
  have h3 : (y 3).val < 768 := (y 3).isLt
  by_cases h : (y 0).val = 0
  · right; intro a; match a with
      | 0 => exact ⟨Nat.zero_le _, by rw [h]; exact Nat.zero_lt_one⟩
      | 1 => exact ⟨Nat.zero_le _, h1⟩
      | 2 => exact ⟨Nat.zero_le _, h2⟩
      | 3 => exact ⟨Nat.zero_le _, h3⟩
  · left; intro a; match a with
      | 0 => exact ⟨Nat.one_le_iff_ne_zero.mpr h, h0⟩
      | 1 => exact ⟨Nat.zero_le _, h1⟩
      | 2 => exact ⟨Nat.zero_le _, h2⟩
      | 3 => exact ⟨Nat.zero_le _, h3⟩

/-- Two pieces that fill a shape read back as their canon, over any earlier writes. -/
theorem read_writes_two {Val : EltTy → Type} [∀ e, Nonempty (Val e)] {sg : RefSig} {κ : Kind} {sp : Space} {S : Shape} {e : EltTy}
    {v : View sg κ sp S e} {f : v.ty.Contents Val} {r1 r0 : Rect S} {w1 : r1.shape.Idx → Val e} {w0 : r0.shape.Idx → Val e}
    {L : List (View.Piece Val S e)} (hc : ∀ y, y ∈ r1.set ∨ y ∈ r0.set) :
    v.read Val (v.writes Val f ((⟨r1, w1⟩ : View.Piece Val S e) :: ⟨r0, w0⟩ :: L))
      = View.canon (Val := Val) [(⟨r1, w1⟩ : View.Piece Val S e), ⟨r0, w0⟩] := by
  rw [View.read_writes_eq_canon v f _ (fun y => (hc y).elim (fun h => ⟨_, List.mem_cons_self .., h⟩)
    (fun h => ⟨_, List.mem_cons_of_mem _ (List.mem_cons_self ..), h⟩))]
  funext y
  by_cases h1 : y ∈ r1.set
  · obtain ⟨x, rfl⟩ : ∃ x, r1.emb x = y := r1.exists_idx_of_mem h1
    rw [View.canon_cons_emb, View.canon_cons_emb]
  · rw [View.canon_cons_of_not_mem (⟨r1, w1⟩ : View.Piece Val S e) (⟨r0, w0⟩ :: L) h1, View.canon_cons_of_not_mem (⟨r1, w1⟩ : View.Piece Val S e) [⟨r0, w0⟩] h1]
    have h0 := (hc y).resolve_left h1
    obtain ⟨x, rfl⟩ : ∃ x, r0.emb x = y := r0.exists_idx_of_mem h0
    rw [View.canon_cons_emb, View.canon_cons_emb]

/-- The two slabs are disjoint. -/
theorem dw_disj : Disjoint (dwR0 : Rect S2x1x1536x768).set (dwR1 : Rect S2x1x1536x768).toLoadRect.set := by
  rw [Finset.disjoint_left]; intro y h h'
  have h0 := (Rect.mem_set_unit.mp h 0).2
  have h1 := (Rect.mem_set_unit.mp h' 0).1
  have : (y 0).val < 0 + 1 := h0
  have : 1 ≤ (y 0).val := h1
  omega

/-- A load of either half right after the zeroing store reads zeros' half. -/
theorem dw_rc0 {v : View sig .tc .vmem S2x1x1536x768 .f32} {w : Vec F S2x1x1536x768 .f32} {L : List (View.Piece (Elt F) S2x1x1536x768 .f32)}  (r : Rect S2x1x1536x768) :
    v.readCov (Val := Elt F) ((⟨Rect.unit ![0, 0, 0, 0] S2x1x1536x768.size inb_S2x1x1536x768_S2x1x1536x768_0_0_0_0, w⟩ : View.Piece (Elt F) S2x1x1536x768 .f32) :: L) r.toLoadRect = View.ld w r := by
  rw [View.readCov_eq_canon', View.canon_cons_unit_zero (S := S2x1x1536x768) (funext fun a => by fin_cases a <;> rfl)]

set_option maxHeartbeats 1000000 in
/-- The dw body at the first point of a row: the block is zeroed, and each half has its product added. -/
theorem dwRun_A (c : Dev nD) (i : grid1.Coords) (arg2 : Memref sig .tc .vmem S1024x1536 .bf16) (harg2 : arg2.IsWhole) (arg3 : Memref sig .tc .vmem S1024x1536 .bf16) (harg3 : arg3.IsWhole) (arg4 : Memref sig .tc .vmem S1024x768 .fp8e5m2) (harg4 : arg4.IsWhole) (arg5 : Memref sig .tc .vmem S1024x24 .f32) (harg5 : arg5.IsWhole) (arg6 : Memref sig .tc .vmem S2x1x1536x768 .f32) (harg6 : arg6.IsWhole) (hc0 : cond1_0 i)
    (x0 : Vec F S1024x1536 .bf16) (x1 : Vec F S1024x1536 .bf16) (x2 : Vec F S1024x768 .fp8e5m2) (x3 : Vec F S1024x24 .f32) (xo : Vec F S2x1x1536x768 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dwStep x0 x1 x2 x3 k1_pay4)) -∗ K ⟨⟩))
          ⊢ wp frame (wpE (defs₀ (F := F)) Variants.none c none) E (cc1_dw i arg2 harg2 arg3 harg3 arg4 harg4 arg5 harg5 arg6 harg6) K := by
    simp only [cc1_dw_eq_skeleton]; unfold cc1_dw_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    sl_unfold_words
    rw [read_writes_two dw_cover]
    simp only [View.readAt_eq_ld, harg2.read_unread, harg3.read_unread, harg4.read_unread, harg5.read_unread, harg6.read_unread, View.ld_unit_zero (S := S1024x1536) hz2, View.ld_unit_zero (S := S1024x768) hz2, View.ld_unit_zero (S := S1024x24) hz2]
    exact congrArg₂ (fun a b => View.canon (Val := Elt F) [(⟨dwR1, k1_pay2 (k1_pay3 x2 x3) a x1⟩ : View.Piece (Elt F) S2x1x1536x768 .f32), ⟨dwR0, k1_pay1 (k1_pay3 x2 x3) b x0⟩])
      ((View.readCov_cons_of_disjoint _ _ _ _ dw_disj).trans (dw_rc0 dwR1)) (dw_rc0 dwR0)

set_option maxHeartbeats 1000000 in
/-- The dw body at a later point of a row: each half of the block found has its product added. -/
theorem dwRun_B (c : Dev nD) (i : grid1.Coords) (arg2 : Memref sig .tc .vmem S1024x1536 .bf16) (harg2 : arg2.IsWhole) (arg3 : Memref sig .tc .vmem S1024x1536 .bf16) (harg3 : arg3.IsWhole) (arg4 : Memref sig .tc .vmem S1024x768 .fp8e5m2) (harg4 : arg4.IsWhole) (arg5 : Memref sig .tc .vmem S1024x24 .f32) (harg5 : arg5.IsWhole) (arg6 : Memref sig .tc .vmem S2x1x1536x768 .f32) (harg6 : arg6.IsWhole) (hc0 : ¬cond1_0 i)
    (x0 : Vec F S1024x1536 .bf16) (x1 : Vec F S1024x1536 .bf16) (x2 : Vec F S1024x768 .fp8e5m2) (x3 : Vec F S1024x24 .f32) (xo : Vec F S2x1x1536x768 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (dwStep x0 x1 x2 x3 xo)) -∗ K ⟨⟩))
          ⊢ wp frame (wpE (defs₀ (F := F)) Variants.none c none) E (cc1_dw i arg2 harg2 arg3 harg3 arg4 harg4 arg5 harg5 arg6 harg6) K := by
    simp only [cc1_dw_eq_skeleton]; unfold cc1_dw_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    sl_unfold_words
    rw [read_writes_two dw_cover]
    simp only [View.readAt_eq_ld, harg2.read_unread, harg3.read_unread, harg4.read_unread, harg5.read_unread, harg6.read_unread, View.ld_unit_zero (S := S1024x1536) hz2, View.ld_unit_zero (S := S1024x768) hz2, View.ld_unit_zero (S := S1024x24) hz2]
    rfl

end Cert.KernelIdeal.Gen

end
-- ==== Proof.KernelIdeal.Dw.lean ====
module

public import proofs.«01_k».proof.Proof.KernelIdeal.DwRuns
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the dw region finds it. -/
def wblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, for any proof data over these arrays that leave it in place. -/
theorem before1_0_of {c : Dev nD} (dat : Dat τ (Elt F) Unit ℕ (UR sig nD τ) ℕ cfg1 c) (hA : dat.A 0 = V c (Pipeline.arrRef spec1 0))
    (hafter : ∀ t, dat.after 0 t = wblk V c 0 t) (t : Fin cfg1.N) (d) : dat.before 0 t d = wblk V c 0 t :=
  (dat.before_in_eq_fetched 0 rfl (fun _ => rfl) (fun _ _ _ => rfl) (fun t => by rw [hafter]; unfold Dat.blockOf wblk; rw [hA]; try rfl) t d).trans
    (by unfold Dat.fetched Dat.blockOf wblk; rw [hA]; try rfl)
/-- Input window 1 holds its block at every point, for any proof data over these arrays that leave it in place. -/
theorem before1_1_of {c : Dev nD} (dat : Dat τ (Elt F) Unit ℕ (UR sig nD τ) ℕ cfg1 c) (hA : dat.A 1 = V c (Pipeline.arrRef spec1 1))
    (hafter : ∀ t, dat.after 1 t = wblk V c 1 t) (t : Fin cfg1.N) (d) : dat.before 1 t d = wblk V c 1 t :=
  (dat.before_in_eq_fetched 1 rfl (fun _ => rfl) (fun _ _ _ => rfl) (fun t => by rw [hafter]; unfold Dat.blockOf wblk; rw [hA]; try rfl) t d).trans
    (by unfold Dat.fetched Dat.blockOf wblk; rw [hA]; try rfl)
/-- Input window 2 holds its block at every point, for any proof data over these arrays that leave it in place. -/
theorem before1_2_of {c : Dev nD} (dat : Dat τ (Elt F) Unit ℕ (UR sig nD τ) ℕ cfg1 c) (hA : dat.A 2 = V c (Pipeline.arrRef spec1 2))
    (hafter : ∀ t, dat.after 2 t = wblk V c 2 t) (t : Fin cfg1.N) (d) : dat.before 2 t d = wblk V c 2 t :=
  (dat.before_in_eq_fetched 2 rfl (fun _ => rfl) (fun _ _ _ => rfl) (fun t => by rw [hafter]; unfold Dat.blockOf wblk; rw [hA]; try rfl) t d).trans
    (by unfold Dat.fetched Dat.blockOf wblk; rw [hA]; try rfl)
/-- Input window 3 holds its block at every point, for any proof data over these arrays that leave it in place. -/
theorem before1_3_of {c : Dev nD} (dat : Dat τ (Elt F) Unit ℕ (UR sig nD τ) ℕ cfg1 c) (hA : dat.A 3 = V c (Pipeline.arrRef spec1 3))
    (hafter : ∀ t, dat.after 3 t = wblk V c 3 t) (t : Fin cfg1.N) (d) : dat.before 3 t d = wblk V c 3 t :=
  (dat.before_in_eq_fetched 3 rfl (fun _ => rfl) (fun _ _ _ => rfl) (fun t => by rw [hafter]; unfold Dat.blockOf wblk; rw [hA]; try rfl) t d).trans
    (by unfold Dat.fetched Dat.blockOf wblk; rw [hA]; try rfl)
abbrev ms1_0 (t : Fin cfg1.N) : Memref sig .tc .vmem S1024x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1536 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x768 .fp8e5m2 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x24 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1x1536x768 .f32 := win1_4.stage (cfg1.slots t 4)
abbrev hs1_4 (t : Fin cfg1.N) : (ms1_4 t).IsWhole := hstage1_4 ((cfg1.slots t 4).cast nbuf1_4)
/-- The output block after point `n`: zeroed at the first point of a row of eight, each point's products added. -/
def dwAt (c : Dev nD) : (n : ℕ) → n < cfg1.N → Vec F S2x1x1536x768 .f32
  | 0, hn => dwStep (wblk V c 0 ⟨0, hn⟩) (wblk V c 1 ⟨0, hn⟩) (wblk V c 2 ⟨0, hn⟩) (wblk V c 3 ⟨0, hn⟩) k1_pay4
  | n + 1, hn => dwStep (wblk V c 0 ⟨n + 1, hn⟩) (wblk V c 1 ⟨n + 1, hn⟩) (wblk V c 2 ⟨n + 1, hn⟩) (wblk V c 3 ⟨n + 1, hn⟩)
      (if (n + 1) % 8 = 0 then k1_pay4 else dwAt c n (Nat.lt_of_succ_lt hn))

/-- At the first point of a row of eight the block is one step from zero. -/
theorem dwAt_first (c : Dev nD) (t : Fin cfg1.N) (h : t.val % 8 = 0) :
    dwAt V c t.val t.isLt = dwStep (wblk V c 0 t) (wblk V c 1 t) (wblk V c 2 t) (wblk V c 3 t) k1_pay4 := by
  obtain ⟨n, hn⟩ := t
  cases n with
  | zero => rfl
  | succ n => show dwStep _ _ _ _ (if (n + 1) % 8 = 0 then _ else _) = _; rw [if_pos h]
/-- At any other point the block is one step from what the point before left. -/
theorem dwAt_next (c : Dev nD) (t : Fin cfg1.N) (h : ¬t.val % 8 = 0) :
    dwAt V c t.val t.isLt = dwStep (wblk V c 0 t) (wblk V c 1 t) (wblk V c 2 t) (wblk V c 3 t) (dwAt V c (t.val - 1) (Nat.lt_of_le_of_lt (Nat.sub_le _ _) t.isLt)) := by
  obtain ⟨n, hn⟩ := t
  cases n with
  | zero => exact absurd (Nat.zero_mod _) h
  | succ n => show dwStep _ _ _ _ (if (n + 1) % 8 = 0 then _ else _) = _; rw [if_neg h]; rfl

/-- The dw region's proof data over the arrays it finds. -/
def datDw (c : Dev nD) : Dat τ (Elt F) Unit ℕ (UR sig nD τ) ℕ cfg1 c where
  A w := V c (Pipeline.arrRef spec1 w)
  after w t := match w with
    | ⟨0, _⟩ => wblk V c 0 t
    | ⟨1, _⟩ => wblk V c 1 t
    | ⟨2, _⟩ => wblk V c 2 t
    | ⟨3, _⟩ => wblk V c 3 t
    | ⟨4, _⟩ => dwAt V c t.val t.isLt
  Φ _ := Pipeline.ΦA spec1 c
  q w := Pipeline.shareOf spec1 w
  owed _ := 0

/-- The proof data starts from the arrays the region finds. -/
theorem datDw_A (c : Dev nD) (w : Fin cfg1.W) : (datDw V c).A w = V c (Pipeline.arrRef spec1 w) := by
  dsimp only [datDw]
/-- Before the body at a point, window 0 holds its block. -/
theorem dwBefore_0 (c : Dev nD) (t : Fin cfg1.N) (d) : (datDw V c).before 0 t d = wblk V c 0 t :=
  before1_0_of V (datDw V c) (datDw_A V c 0) (fun _ => by dsimp only [datDw]) t d
/-- After the body at a point, window 0 still holds its block. -/
theorem dwAfter_0 (c : Dev nD) (t : Fin cfg1.N) : (datDw V c).after 0 t = wblk V c 0 t := by dsimp only [datDw]
/-- Before the body at a point, window 1 holds its block. -/
theorem dwBefore_1 (c : Dev nD) (t : Fin cfg1.N) (d) : (datDw V c).before 1 t d = wblk V c 1 t :=
  before1_1_of V (datDw V c) (datDw_A V c 1) (fun _ => by dsimp only [datDw]) t d
/-- After the body at a point, window 1 still holds its block. -/
theorem dwAfter_1 (c : Dev nD) (t : Fin cfg1.N) : (datDw V c).after 1 t = wblk V c 1 t := by dsimp only [datDw]
/-- Before the body at a point, window 2 holds its block. -/
theorem dwBefore_2 (c : Dev nD) (t : Fin cfg1.N) (d) : (datDw V c).before 2 t d = wblk V c 2 t :=
  before1_2_of V (datDw V c) (datDw_A V c 2) (fun _ => by dsimp only [datDw]) t d
/-- After the body at a point, window 2 still holds its block. -/
theorem dwAfter_2 (c : Dev nD) (t : Fin cfg1.N) : (datDw V c).after 2 t = wblk V c 2 t := by dsimp only [datDw]
/-- Before the body at a point, window 3 holds its block. -/
theorem dwBefore_3 (c : Dev nD) (t : Fin cfg1.N) (d) : (datDw V c).before 3 t d = wblk V c 3 t :=
  before1_3_of V (datDw V c) (datDw_A V c 3) (fun _ => by dsimp only [datDw]) t d
/-- After the body at a point, window 3 still holds its block. -/
theorem dwAfter_3 (c : Dev nD) (t : Fin cfg1.N) : (datDw V c).after 3 t = wblk V c 3 t := by dsimp only [datDw]
/-- After a point the result's window holds the accumulated block. -/
theorem dwAfter_4 (c : Dev nD) (t : Fin cfg1.N) : (datDw V c).after 4 t = dwAt V c t.val t.isLt := by dsimp only [datDw]
/-- Off the first point of a row the output's staging buffer holds what the point before left. -/
theorem dwBefore_4 (c : Dev nD) (t : Fin cfg1.N) (h0 : ¬t.val % 8 = 0) (d) :
    (datDw V c).before 4 t d = dwAt V c (t.val - 1) (Nat.lt_of_le_of_lt (Nat.sub_le _ _) t.isLt) := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [datDw]

/-- What the body is called with at point `t`, the windows one by one, -/
def dwPre (c : Dev nD) (t : Fin cfg1.N) : sProp 𝕄 :=
  iprop((datDw V c).Φ t.castSucc ∗ (datDw V c).owesAt () t.castSucc
    ∗ (∃ d, owns (c : Thread nD τ) (ms1_0 t) fullShare ((datDw V c).before 0 t d))
    ∗ (∃ d, owns (c : Thread nD τ) (ms1_1 t) fullShare ((datDw V c).before 1 t d))
    ∗ (∃ d, owns (c : Thread nD τ) (ms1_2 t) fullShare ((datDw V c).before 2 t d))
    ∗ (∃ d, owns (c : Thread nD τ) (ms1_3 t) fullShare ((datDw V c).before 3 t d))
    ∗ (∃ d, owns (c : Thread nD τ) (ms1_4 t) fullShare ((datDw V c).before 4 t d)))

/-- and what it returns. -/
def dwPost (c : Dev nD) (t : Fin cfg1.N) : sProp 𝕄 :=
  iprop((datDw V c).Φ t.succ ∗ (datDw V c).owesAt () t.succ
    ∗ owns (c : Thread nD τ) (ms1_0 t) fullShare ((datDw V c).after 0 t)
    ∗ owns (c : Thread nD τ) (ms1_1 t) fullShare ((datDw V c).after 1 t)
    ∗ owns (c : Thread nD τ) (ms1_2 t) fullShare ((datDw V c).after 2 t)
    ∗ owns (c : Thread nD τ) (ms1_3 t) fullShare ((datDw V c).after 3 t)
    ∗ owns (c : Thread nD τ) (ms1_4 t) fullShare ((datDw V c).after 4 t))

set_option maxHeartbeats 1600000 in
/-- The body at any point, by the two cases of its conditional. -/
theorem dw_sound (c : Dev nD) (t : Fin cfg1.N) :
    dwPre V c t ⊢ wp frame (wpE (defs₀ (F := F)) Variants.none c none) Set.univ (bodyAt1 t) (fun _ => dwPost V c t) := by
  unfold dwPre dwPost bodyAt1
  simp only [dwBefore_0, dwBefore_1, dwBefore_2, dwBefore_3]
  rw [show (datDw V c).Φ t.succ = (datDw V c).Φ t.castSucc from rfl,
    show (datDw V c).owesAt () t.succ = (datDw V c).owesAt () t.castSucc from rfl,
    dwAfter_0, dwAfter_1, dwAfter_2, dwAfter_3, dwAfter_4]
  have hN : t.val < 64 := lt_of_lt_of_eq t.isLt (show cfg1.N = 64 from N_1)
  by_cases h0 : t.val % 8 = 0
  · rw [dwAt_first V c t h0]
    iintro ⟨HΦ, Ho, ⟨%d0, H0⟩, ⟨%d1, H1⟩, ⟨%d2, H2⟩, ⟨%d3, H3⟩, ⟨%d4, H4⟩⟩
    iapply (dwRun_A c (grid1.coords t) _ (hs1_0 t) _ (hs1_1 t) _ (hs1_2 t) _ (hs1_3 t) _ (hs1_4 t) ((hcond1_0 t).mpr h0) (wblk V c 0 t) (wblk V c 1 t) (wblk V c 2 t) (wblk V c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [dwAt_next V c t h0]
    simp only [dwBefore_4 V c t h0]
    iintro ⟨HΦ, Ho, ⟨%d0, H0⟩, ⟨%d1, H1⟩, ⟨%d2, H2⟩, ⟨%d3, H3⟩, ⟨%d4, H4⟩⟩
    iapply (dwRun_B c (grid1.coords t) _ (hs1_0 t) _ (hs1_1 t) _ (hs1_2 t) _ (hs1_3 t) _ (hs1_4 t) (fun h => h0 ((hcond1_0 t).mp h)) (wblk V c 0 t) (wblk V c 1 t) (wblk V c 2 t) (wblk V c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row is the body at the point. -/
theorem dw_row (t : Fin cfg1.N) :
    defs₀ (F := F) .tc cfg1.body (cfg1.bodyArgs t (cfg1.slots t)) = bodyAt1 t := by
  unfold defs₀; rw [Defs.onTc_tc]

/-- The library's body obligation for the dw region. -/
theorem dw_obligation (c : Dev nD) : BodyObligation (datDw V c) (defs₀ (F := F)) Variants.none () Set.univ := fun t => by
  rw [bigSep_W1, bigSep_W1, dw_row]
  exact triple_restated (dw_sound V c t) rfl .rfl fun _ => .rfl

end Cert.KernelIdeal.Gen

end
-- ==== Proof.KernelIdeal.Run.lean ====
module

public import Idealize.ShloMosaic.Lib.Pipeline.RegionArrays
public import proofs.«01_k».proof.Proof.KernelIdeal.Dx
public import proofs.«01_k».proof.Proof.KernelIdeal.Dw
public import proofs.«01_k».proof.Proof.Gen.KernelIdeal.Regions
public import Idealize.ShloMosaic.Lib.Pipeline.RegionsLoop
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers the regions find and leave -/

/-- The buffers the dx region finds. -/
def VDx (c : Dev nD) (b : Ref sig .tc) : Buf (Elt F) ((c : Thread nD τ).loc b) := V1 m c b

/-- What the dx region leaves in its result. -/
def dxFinal (c : Dev nD) : Buf (Elt F) ((c : Thread nD τ).loc main_v2) := (datDx (VDx m) c).arrAt 5 cfg0.N

/-- The unknowns of the generated frame with the dx region's result filled in. -/
def outsA : Outs (F := F) := fun _ r c => Function.update (V1 m c) (Proc.devRef .tc main_v2) (dxFinal m c) (Proc.devRef .tc r)

/-- The buffers the dw region finds. -/
def VDw (c : Dev nD) (b : Ref sig .tc) : Buf (Elt F) ((c : Thread nD τ).loc b) := V5 m (outsA m) c b

/-- What the dw region leaves in its result. -/
def dwFinal (c : Dev nD) : Buf (Elt F) ((c : Thread nD τ).loc main_v9) := (datDw (VDw m) c).arrAt 4 cfg1.N

/-- The unknowns of the generated frame: each region's result. -/
def outsF : Outs (F := F) := fun n r c => match n with
  | 6 => Function.update (V5 m (outsA m) c) (Proc.devRef .tc main_v9) (dwFinal m c) (Proc.devRef .tc r)
  | _ => outsA m n r c

/-- The first region's result among the regions' results. -/
theorem outsF_dx (c : Dev nD) : outsF m 2 main_v2 c = dxFinal m c := by
  show outsA m 2 main_v2 c = _
  unfold outsA; exact Function.update_self _ _ _
/-- The second region's result among the regions' results. -/
theorem outsF_dw (c : Dev nD) : outsF m 6 main_v9 c = dwFinal m c := by
  show Function.update (V5 m (outsA m) c) (Proc.devRef .tc main_v9) (dwFinal m c) (Proc.devRef .tc main_v9) = _
  exact Function.update_self _ _ _

/-- The proof data of both regions. -/
def pdats : (p : Fin 2) → (c : Dev nD) → Dat τ (Elt F) Unit ℕ (UR sig nD τ) ℕ (cfgs p) c
  | ⟨0, _⟩ => fun c => datDx (VDx m) c
  | ⟨1, _⟩ => fun c => datDw (VDw m) c

/-- No core owes another anything: no level is assigned. -/
abbrev Lz : GSem nD τ sig → Finset Unit := fun _ => ∅
abbrev lvz : GSem nD τ sig → Unit → ℕ := fun _ _ => 0

/-- What rides beside the buffers: the core owing nothing and the generator register at some state. -/
abbrev Rz (c : Dev nD) : sProp 𝕄 := iprop((∃ W, owes (c : Thread nD τ) (0 : CellTallies nD τ sig Unit) W) ∗ (∃ r, prngReg c r))

/-! ## What the arrays hold when the regions are left -/

/-- After the first region its result's array holds what the region leaves. -/
theorem V2_dx (c : Dev nD) : V2 m (outsF m) c main_v2 = dxFinal m c := by
  show Function.update (V1 m c) (Proc.devRef .tc main_v2) (outsF m 2 main_v2 c) (Proc.devRef .tc main_v2) = _
  rw [Function.update_self, outsF_dx]
/-- After the second region its result's array holds what the region leaves. -/
theorem V6_dw (c : Dev nD) : V6 m (outsF m) c main_v9 = dwFinal m c := by
  show Function.update (V5 m (outsF m) c) (Proc.devRef .tc main_v9) (outsF m 6 main_v9 c) (Proc.devRef .tc main_v9) = _
  rw [Function.update_self, outsF_dw]

/-- The buffers the second region finds depend on the first result only. -/
theorem VDw_eq (c : Dev nD) (b : Ref sig .tc) : VDw m c b = V5 m (outsF m) c b := by
  unfold VDw; rfl

/-- At the first region's exit each of its arrays holds what the next stretch finds. -/
theorem dx_arr (c : Dev nD) : ∀ w, (datDx (VDx m) c).arrAt w cfg0.N = V2 m (outsF m) c (Pipeline.arrRef spec0 w)
  | ⟨0, _⟩ => ((datDx (VDx m) c).arrAt_in 0 rfl _).trans ((datDx_A (VDx m) c 0).trans (V2_of m (outsF m) c (Pipeline.arrRef spec0 0) (by decide)).symm)
  | ⟨1, _⟩ => ((datDx (VDx m) c).arrAt_in 1 rfl _).trans ((datDx_A (VDx m) c 1).trans (V2_of m (outsF m) c (Pipeline.arrRef spec0 1) (by decide)).symm)
  | ⟨2, _⟩ => ((datDx (VDx m) c).arrAt_in 2 rfl _).trans ((datDx_A (VDx m) c 2).trans (V2_of m (outsF m) c (Pipeline.arrRef spec0 2) (by decide)).symm)
  | ⟨3, _⟩ => ((datDx (VDx m) c).arrAt_in 3 rfl _).trans ((datDx_A (VDx m) c 3).trans (V2_of m (outsF m) c (Pipeline.arrRef spec0 3) (by decide)).symm)
  | ⟨4, _⟩ => ((datDx (VDx m) c).arrAt_in 4 rfl _).trans ((datDx_A (VDx m) c 4).trans (V2_of m (outsF m) c (Pipeline.arrRef spec0 4) (by decide)).symm)
  | ⟨5, _⟩ => (V2_dx m c).symm

/-- At the second region's exit each of its arrays holds what the next stretch finds. -/
theorem dw_arr (c : Dev nD) : ∀ w, (datDw (VDw m) c).arrAt w cfg1.N = V6 m (outsF m) c (Pipeline.arrRef spec1 w)
  | ⟨0, _⟩ => ((datDw (VDw m) c).arrAt_in 0 rfl _).trans ((datDw_A (VDw m) c 0).trans (V6_of m (outsF m) c (Pipeline.arrRef spec1 0) (by decide)).symm)
  | ⟨1, _⟩ => ((datDw (VDw m) c).arrAt_in 1 rfl _).trans ((datDw_A (VDw m) c 1).trans (V6_of m (outsF m) c (Pipeline.arrRef spec1 1) (by decide)).symm)
  | ⟨2, _⟩ => ((datDw (VDw m) c).arrAt_in 2 rfl _).trans ((datDw_A (VDw m) c 2).trans (V6_of m (outsF m) c (Pipeline.arrRef spec1 2) (by decide)).symm)
  | ⟨3, _⟩ => ((datDw (VDw m) c).arrAt_in 3 rfl _).trans ((datDw_A (VDw m) c 3).trans (V6_of m (outsF m) c (Pipeline.arrRef spec1 3) (by decide)).symm)
  | ⟨4, _⟩ => (V6_dw m c).symm

/-- Off the dx region's arrays nothing changes; -/
theorem dx_rest (c : Dev nD) (b : Ref sig .tc) (hb : b ∉ Finset.univ.image (Pipeline.arrRef spec0)) : V2 m (outsF m) c b = V1 m c b :=
  V2_of m (outsF m) c b fun h => hb (by rw [List.mem_singleton.mp h]; exact Finset.mem_image.mpr ⟨5, Finset.mem_univ _, rfl⟩)
/-- nor off the dw region's. -/
theorem dw_rest (c : Dev nD) (b : Ref sig .tc) (hb : b ∉ Finset.univ.image (Pipeline.arrRef spec1)) : V6 m (outsF m) c b = V5 m (outsF m) c b :=
  V6_of m (outsF m) c b fun h => hb (by rw [List.mem_singleton.mp h]; exact Finset.mem_image.mpr ⟨4, Finset.mem_univ _, rfl⟩)

/-- The dw region's invariant is made of the generator register and the scoped rest, -/
theorem dw_hin (c : Dev nD) : iprop((∃ r, prngReg c r) ∗ Pipeline.scopedRest spec1 c) ⊢ (datDw (VDw m) c).Φ 0 := by
  rw [show (datDw (VDw m) c).Φ 0 = Pipeline.ΦA spec1 c from rfl]
  unfold Pipeline.ΦA
  iintro ⟨Hg, Hr⟩
  isplitl [Hr]; · iexact Hr
  iexact Hg
/-- and gives them back. -/
theorem dw_hout (c : Dev nD) : (datDw (VDw m) c).Φ (Fin.last cfg1.N) ⊢ iprop((∃ r, prngReg c r) ∗ Pipeline.scopedRest spec1 c) := by
  rw [show (datDw (VDw m) c).Φ (Fin.last cfg1.N) = Pipeline.ΦA spec1 c from rfl]
  unfold Pipeline.ΦA
  iintro ⟨Hr, Hg⟩
  isplitl [Hg]; · iexact Hg
  iexact Hr

set_option backward.isDefEq.respectTransparency.types false in
/-- The dx region: entered from the buffers after the first host stretch, left with the result in place. -/
def regDx : RegionSeg (pcfgs (F := F)) adm (pdats m) () defs₀ Variants.none Lz lvz 0 where
  win := launch₀0.win
  block_pos := block_pos0
  stage_whole := stage_whole0
  K := PEmpty
  osem k := k.elim
  ho := Pipeline.OwnSemFacts.none _
  hbody c := (dx_obligation (VDx m) c).loose
  hwaits := Pipeline.hwaits_of_owed_zero _ _ _ _ Lz lvz 0 fun _ _ => rfl
  pre c := iprop(StableHlo.held (c : Thread nD τ) (Pipeline.ucRefs τ sig) (V1 m c) ∗ Rz c)
  post c := iprop(StableHlo.held (c : Thread nD τ) (Pipeline.ucRefs τ sig) (V2 m (outsF m) c) ∗ Rz c)
  X c := iprop(∃ r, prngReg c r)
  Y c := iprop(∃ r, prngReg c r)
  Z c := Pipeline.unscopedRest spec0 c (fun b => V1 m c b)
  hentry c := by
    rw [← Pipeline.unscopedBufs_held (Ix := Unit) (Name := ℕ) (U := UR sig nD τ) (Lvl := ℕ) c (V1 m c), Pipeline.ownSems0_none, Pipeline.prefHeld_of_none _ rfl]
    have hsplit := Pipeline.arrays_of_unscopedBufs_shared (pcfgs (F := F)) adm (pdats m) (p := 0) launch₀0.win sharedIn0 arr_whole0 c (fun _ _ => rfl) (fun b => V1 m c b) (datDx_A (VDx m) c)
    iintro ⟨⟨Hub, HO, Hg⟩, -, -⟩
    ihave H := hsplit $$ Hub
    icases H with ⟨Ha, Hz⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hz
  hin c := (show _ ⊢ iprop((∃ r, prngReg c r) ∗ Pipeline.scopedRest spec0 c) from by
    iintro ⟨HX, -, Hr⟩
    isplitl [HX]; · iexact HX
    iexact Hr).trans (dx_hin (VDx m) c)
  hout c := (dx_hout (VDx m) c).trans (by
    rw [Pipeline.ownSems0_none]
    iintro ⟨HY, Hr⟩
    isplitl [HY]; · iexact HY
    isplitr; · iempintro
    iexact Hr)
  hexit c := by
    rw [← Pipeline.unscopedBufs_held (Ix := Unit) (Name := ℕ) (U := UR sig nD τ) (Lvl := ℕ) c (V2 m (outsF m) c)]
    have hjoin := Pipeline.unscopedBufs_of_arrays_shared (pcfgs (F := F)) adm (p := 0) launch₀0.win sharedIn0 arr_whole0 c (pdats m) (fun _ _ => rfl) (fun b => V1 m c b) (fun b => V2 m (outsF m) c b) ((datDx (VDx m) c).arrAt · cfg0.N) (dx_arr m c) (dx_rest m c)
    iintro ⟨Ha, HO, HY, HR⟩
    imodintro
    isplitl [Ha HR]
    · iapply hjoin
      isplitl [Ha]; · iexact Ha
      iexact HR
    isplitl [HO]
    · unfold Pipeline.Dat.owesAt Pipeline.owesWithin
      icases HO with ⟨%W, -, HO⟩; iexists W; iexact HO
    iexact HY

/-- The dw region's windows lie on distinct arrays: each is held whole. -/
theorem dw_share (c : Dev nD) : ∀ w, (pdats m 1 c).share w = fullShare :=
  (datDw (VDw m) c).share_full fun w => Pipeline.shareOf_eq_fullShare_of_injective _ launch1.win.arr_inj w

set_option backward.isDefEq.respectTransparency.types false in
/-- The dw region: entered from the buffers after the middle host stretches, left with the result in place. -/
def regDw : RegionSeg (pcfgs (F := F)) adm (pdats m) () defs₀ Variants.none Lz lvz 1 where
  win := launch1.win.to₀
  block_pos := block_pos1
  stage_whole := stage_whole1
  K := PEmpty
  osem k := k.elim
  ho := Pipeline.OwnSemFacts.none _
  hbody c := (dw_obligation (VDw m) c).loose
  hwaits := Pipeline.hwaits_of_owed_zero _ _ _ _ Lz lvz 1 fun _ _ => rfl
  pre c := iprop(StableHlo.held (c : Thread nD τ) (Pipeline.ucRefs τ sig) (V5 m (outsF m) c) ∗ Rz c)
  post c := iprop(StableHlo.held (c : Thread nD τ) (Pipeline.ucRefs τ sig) (V6 m (outsF m) c) ∗ Rz c)
  X c := iprop(∃ r, prngReg c r)
  Y c := iprop(∃ r, prngReg c r)
  Z c := Pipeline.unscopedRest spec1 c (fun b => V5 m (outsF m) c b)
  hentry c := by
    rw [← Pipeline.unscopedBufs_held (Ix := Unit) (Name := ℕ) (U := UR sig nD τ) (Lvl := ℕ) c (V5 m (outsF m) c), Pipeline.ownSems0_none, Pipeline.prefHeld_of_none _ rfl]
    have hsplit := Pipeline.arrays_of_unscopedBufs (pcfgs (F := F)) adm (pdats m) (p := 1) launch1.win arr_whole1 c (dw_share m c) (fun b => V5 m (outsF m) c b) (datDw_A (VDw m) c)
    iintro ⟨⟨Hub, HO, Hg⟩, -, -⟩
    ihave H := hsplit $$ Hub
    icases H with ⟨Ha, Hz⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hz
  hin c := (show _ ⊢ iprop((∃ r, prngReg c r) ∗ Pipeline.scopedRest spec1 c) from by
    iintro ⟨HX, -, Hr⟩
    isplitl [HX]; · iexact HX
    iexact Hr).trans (dw_hin m c)
  hout c := (dw_hout m c).trans (by
    rw [Pipeline.ownSems0_none]
    iintro ⟨HY, Hr⟩
    isplitl [HY]; · iexact HY
    isplitr; · iempintro
    iexact Hr)
  hexit c := by
    rw [← Pipeline.unscopedBufs_held (Ix := Unit) (Name := ℕ) (U := UR sig nD τ) (Lvl := ℕ) c (V6 m (outsF m) c)]
    have hjoin := Pipeline.unscopedBufs_of_arrays (pcfgs (F := F)) adm (p := 1) launch1.win arr_whole1 c (pdats m) (dw_share m c) (fun b => V5 m (outsF m) c b) (fun b => V6 m (outsF m) c b) ((datDw (VDw m) c).arrAt · cfg1.N) (dw_arr m c) (dw_rest m c)
    iintro ⟨Ha, HO, HY, HR⟩
    imodintro
    isplitl [Ha HR]
    · iapply hjoin
      isplitl [Ha]; · iexact Ha
      iexact HR
    isplitl [HO]
    · unfold Pipeline.Dat.owesAt Pipeline.owesWithin
      icases HO with ⟨%W, -, HO⟩; iexists W; iexact HO
    iexact HY

/-- The launch element. -/
def u₀ : UR sig nD τ := initOf (Pipeline.cells cfgs cellOf_inj) (Pipeline.launchToks cfgs cellOf_inj)

/-- @main runs, leaves its arguments as launched and every semaphore counter at zero. -/
theorem frameF (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_cond m emb₁ () Variants.none Lz lvz (fun _ _ => rfl) ρ (outsF m) (pdats m) 0 (fun _ => iprop(emp)) u₀
    (by
      unfold u₀
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro) (fun _ c => Rz c)
    (Pipeline.initEach Lz lvz fun c => by
      iintro ⟨⟨-, HO, -, Hg, -⟩, -⟩
      imodintro
      isplitl [HO]; · iexists ∅; iexact HO
      iexists _; iexact Hg) (fun c => by iintro ⟨HO, -⟩; iexact HO)
    (regDx m) (fun _ => .rfl) (fun _ => .rfl) (regDw m) (fun _ => .rfl) (fun _ => .rfl)

end Cert.KernelIdeal.Gen

end
-- ==== Proof.Value.Spec.lean ====
module

public import Idealize.ShloMosaic.PureOps.Ideal
public import Idealize.ShloMosaic.Lib.ValueIdx
public import Idealize.ShloMosaic.Lib.TwoAxisContraction
public import Idealize.ShloMosaic.Lib.Pipeline.Value

@[expose] public section

noncomputable section

namespace Cert.Spec

open Idealize.ShloMosaic Idealize.ShloMosaic.ValueIdx
open scoped BigOperators

/-- A rank-1 array of extended reals. -/
abbrev A1 (a : ℕ) := (⟨1, ![a]⟩ : Shape).Idx → EReal
/-- A rank-2 array of extended reals. -/
abbrev A2 (a b : ℕ) := (⟨2, ![a, b]⟩ : Shape).Idx → EReal
/-- A rank-3 array of extended reals. -/
abbrev A3 (a b c : ℕ) := (⟨3, ![a, b, c]⟩ : Shape).Idx → EReal
/-- A rank-4 array of extended reals. -/
abbrev A4 (a b c d : ℕ) := (⟨4, ![a, b, c, d]⟩ : Shape).Idx → EReal

/-- The dequantised output gradient of batch `b`, frame `t`, phase `p`, channel `c`: the code times its group's scale. -/
def gS (dy : A3 4 16384 768) (s : A3 4 2048 24) (b : Fin 4) (t : Fin 2048) (p : Fin 8) (c : Fin 768) : EReal :=
  dy (ix3 b (⟨t.val * 8 + p.val, by omega⟩ : Fin 16384) c) * s (ix3 b t (⟨c.val / 32, by omega⟩ : Fin 24))

/-- The dequantised weight at tap `q`: the code times its channel's scale. -/
def wS (w : A3 16 1536 768) (ws : A1 768) (q : Fin 16) (k : Fin 1536) (c : Fin 768) : EReal :=
  w (ix3 q k c) * ws (ix1 c)

/-- The product of one frame's gradient with the first eight taps. -/
def y0S (dy : A3 4 16384 768) (s : A3 4 2048 24) (w : A3 16 1536 768) (ws : A1 768) (b : Fin 4) (t : Fin 2048) (k : Fin 1536) : EReal :=
  ∑ p : Fin 8, ∑ c : Fin 768, gS dy s b t p c * wS w ws (⟨p.val, by omega⟩ : Fin 16) k c

/-- The product of one frame's gradient with the last eight taps. -/
def y1S (dy : A3 4 16384 768) (s : A3 4 2048 24) (w : A3 16 1536 768) (ws : A1 768) (b : Fin 4) (t : Fin 2048) (k : Fin 1536) : EReal :=
  ∑ p : Fin 8, ∑ c : Fin 768, gS dy s b t p c * wS w ws (⟨p.val + 8, by omega⟩ : Fin 16) k c

/-- The input gradient: a frame's product with the first taps plus the next frame's product with the last taps. -/
def dxS (dy : A3 4 16384 768) (s : A3 4 2048 24) (w : A3 16 1536 768) (ws : A1 768) (b : Fin 4) (t : Fin 2048) (k : Fin 1536) : EReal :=
  y0S dy s w ws b t k + if h : t.val + 1 < 2048 then y1S dy s w ws b ⟨t.val + 1, h⟩ k else 0

/-- The weight gradient of the first eight taps. -/
def dw0S (x : A3 4 2048 1536) (dy : A3 4 16384 768) (s : A3 4 2048 24) (p : Fin 8) (k : Fin 1536) (c : Fin 768) : EReal :=
  ∑ b : Fin 4, ∑ t : Fin 2048, x (ix3 b t k) * gS dy s b t p c

/-- The weight gradient of the last eight taps: each frame's input with the next frame's gradient. -/
def dw1S (x : A3 4 2048 1536) (dy : A3 4 16384 768) (s : A3 4 2048 24) (p : Fin 8) (k : Fin 1536) (c : Fin 768) : EReal :=
  ∑ b : Fin 4, ∑ t : Fin 2047, x (ix3 b (⟨t.val, by omega⟩ : Fin 2048) k) * gS dy s b (⟨t.val + 1, by omega⟩ : Fin 2048) p c

/-- A scatter whose updates land at distinct places, read where an update lands and where none does. -/
theorem foldl_hit {α ι κ : Type} [DecidableEq κ] (f : α → α → α) (e : ι → κ) (he : Function.Injective e) (u : ι → α) :
    ∀ (l : List ι), l.Nodup → ∀ (x : κ → α),
      (∀ n ∈ l, l.foldl (fun r n => fun i' => if i' = e n then f (r (e n)) (u n) else r i') x (e n) = f (x (e n)) (u n)) ∧
      (∀ i, (∀ n ∈ l, e n ≠ i) → l.foldl (fun r n => fun i' => if i' = e n then f (r (e n)) (u n) else r i') x i = x i)
  | [], _, x => ⟨fun n hn => absurd hn (by simp), fun i _ => rfl⟩
  | a :: l, hl, x => by
    have ih := foldl_hit f e he u l (List.nodup_cons.1 hl).2 (fun i' => if i' = e a then f (x (e a)) (u a) else x i')
    have ha := (List.nodup_cons.1 hl).1
    refine ⟨fun n hn => ?_, fun i hi => ?_⟩
    · rw [List.foldl_cons]
      rcases List.mem_cons.1 hn with rfl | hn
      · rw [ih.2 (e n) (fun n' hn' h => ha (he h ▸ hn'))]
        exact if_pos rfl
      · rw [ih.1 n hn, if_neg]
        intro h
        exact ha (he h ▸ hn)
    · rw [List.foldl_cons, ih.2 i (fun n hn => hi n (List.mem_cons_of_mem _ hn)), if_neg]
      intro h
      exact hi a List.mem_cons_self h.symm

/-- A scatter whose update `j` lands at `e j`, the places distinct, read at `e j`. -/
theorem scatter_hit {α : Type} {s si u : Shape} {w : ℕ} (d : ScatterDims s si u) (f : α → α → α) (x : s.Idx → α) (idx : IVec si w)
    (upd : u.Idx → α) (e : u.Idx → s.Idx) (he : Function.Injective e) (hd : ∀ j, d.resultIdx? j idx = some (e j)) (j : u.Idx) :
    Host.scatter d f x idx upd (e j) = f (x (e j)) (upd j) := by
  have h := (foldl_hit f (fun n => e (u.rowMajor.symm n)) (he.comp u.rowMajor.symm.injective) (fun n => upd (u.rowMajor.symm n))
    (List.finRange u.numel) (List.nodup_finRange _) x).1 (u.rowMajor j) (List.mem_finRange _)
  simp only [Equiv.symm_apply_apply] at h
  unfold Host.scatter
  simp only [hd]
  exact h

/-- Such a scatter at a place no update lands on is the operand. -/
theorem scatter_miss {α : Type} {s si u : Shape} {w : ℕ} (d : ScatterDims s si u) (f : α → α → α) (x : s.Idx → α) (idx : IVec si w)
    (upd : u.Idx → α) (e : u.Idx → s.Idx) (he : Function.Injective e) (hd : ∀ j, d.resultIdx? j idx = some (e j)) (i : s.Idx)
    (hi : ∀ j, e j ≠ i) :
    Host.scatter d f x idx upd i = x i := by
  have h := (foldl_hit f (fun n => e (u.rowMajor.symm n)) (he.comp u.rowMajor.symm.injective) (fun n => upd (u.rowMajor.symm n))
    (List.finRange u.numel) (List.nodup_finRange _) x).2 i (fun n _ => hi _)
  unfold Host.scatter
  simp only [hd]
  exact h

end Cert.Spec

end
-- ==== Proof.Value.RefVal.lean ====
module

public import proofs.«01_k».proof.Proof.Value.Spec
public import Idealize.ShloMosaic.PureOps.Ideal.Laws
public import proofs.«01_k».proof.Proof.Gen.ReferenceIdeal.Read
public import proofs.«01_k».proof.Proof.Gen.ReferenceIdeal.Frame

@[expose] public section

noncomputable section

namespace Cert.RefVal

open Cert.ReferenceIdeal Cert.ReferenceIdeal.Gen Cert.ReferenceIdeal.Read Idealize.ShloMosaic Idealize.ShloMosaic.TcCoe
open Idealize.ShloMosaic.ValueIdx Cert.Spec
open scoped BigOperators

/-- The reference's dequantised gradient at an index. -/
theorem g_apply (s : A3 4 2048 24) (dy : A3 4 16384 768) (b : Fin 4) (t : Fin 2048) (p : Fin 8) (c : Fin 768) :
    val_main_v6 (F := Ideal) s dy (ix4 b t p c) = gS dy s b t p c := by
  unfold val_main_v6
  rw [shapeCast_apply _ _ _ (ix5 b t p (⟨c.val / 32, by omega⟩ : Fin 24) (⟨c.val % 32, by omega⟩ : Fin 32)) (by
    rw [Shape.rowMajor_val_five, Shape.rowMajor_val_four]
    show (((b.val * 2048 + t.val) * 8 + p.val) * 24 + c.val / 32) * 32 + c.val % 32 = ((b.val * 2048 + t.val) * 8 + p.val) * 768 + c.val
    omega)]
  rw [val_main_v5_apply, val_main_v4_apply, val_main_v3_apply, val_main_v2_apply]
  unfold val_main_v1
  rw [shapeCast_apply _ _ _ (ix3 b (⟨t.val * 8 + p.val, by omega⟩ : Fin 16384) c) (by
    rw [Shape.rowMajor_val_five, Shape.rowMajor_val_three]
    show (b.val * 16384 + (t.val * 8 + p.val)) * 768 + c.val = (((b.val * 2048 + t.val) * 8 + p.val) * 24 + c.val / 32) * 32 + c.val % 32
    omega)]
  unfold gS
  refine congrArg (dy _ * ·) (congrArg s ?_)
  funext a
  match a with
  | ⟨0, _⟩ => rfl
  | ⟨1, _⟩ => rfl
  | ⟨2, _⟩ => rfl

/-- The reference's dequantised weight of the first taps at an index. -/
theorem w0_apply (ws : A1 768) (w : A3 16 1536 768) (p : Fin 8) (k : Fin 1536) (c : Fin 768) :
    val_main_v15 (F := Ideal) ws w (ix3 p k c) = wS w ws (⟨p.val, by omega⟩ : Fin 16) k c := by
  unfold val_main_v15
  rw [shapeCast_apply _ _ _ (ix4 (0 : Fin 1) p k c) (by
    rw [Shape.rowMajor_val_four, Shape.rowMajor_val_three]
    show ((0 * 8 + p.val) * 1536 + k.val) * 768 + c.val = (p.val * 1536 + k.val) * 768 + c.val
    omega)]
  unfold val_main_v14
  rw [extractStridedSlice_apply _ _ _ _ (ix4 (0 : Fin 2) p k c) (fun a => match a with
    | ⟨0, _⟩ => rfl
    | ⟨1, _⟩ => (Nat.zero_add _).symm
    | ⟨2, _⟩ => (Nat.zero_add _).symm
    | ⟨3, _⟩ => (Nat.zero_add _).symm)]
  unfold val_main_v11
  rw [shapeCast_apply _ _ _ (ix3 (⟨p.val, by omega⟩ : Fin 16) k c) (by
    rw [Shape.rowMajor_val_four, Shape.rowMajor_val_three]
    show (p.val * 1536 + k.val) * 768 + c.val = ((0 * 8 + p.val) * 1536 + k.val) * 768 + c.val
    omega)]
  rw [val_main_v10_apply, val_main_v9_apply, val_main_v8_apply, val_main_v7_apply]
  unfold wS
  refine congrArg (w _ * ·) (congrArg ws ?_)
  funext a
  match a with
  | ⟨0, _⟩ => rfl

/-- The reference's dequantised weight of the last taps at an index. -/
theorem w1_apply (ws : A1 768) (w : A3 16 1536 768) (p : Fin 8) (k : Fin 1536) (c : Fin 768) :
    val_main_v18 (F := Ideal) ws w (ix3 p k c) = wS w ws (⟨p.val + 8, by omega⟩ : Fin 16) k c := by
  unfold val_main_v18
  rw [shapeCast_apply _ _ _ (ix4 (0 : Fin 1) p k c) (by
    rw [Shape.rowMajor_val_four, Shape.rowMajor_val_three]
    show ((0 * 8 + p.val) * 1536 + k.val) * 768 + c.val = (p.val * 1536 + k.val) * 768 + c.val
    omega)]
  unfold val_main_v17
  rw [extractStridedSlice_apply _ _ _ _ (ix4 (1 : Fin 2) p k c) (fun a => match a with
    | ⟨0, _⟩ => rfl
    | ⟨1, _⟩ => (Nat.zero_add _).symm
    | ⟨2, _⟩ => (Nat.zero_add _).symm
    | ⟨3, _⟩ => (Nat.zero_add _).symm)]
  unfold val_main_v11
  rw [shapeCast_apply _ _ _ (ix3 (⟨p.val + 8, by omega⟩ : Fin 16) k c) (by
    rw [Shape.rowMajor_val_four, Shape.rowMajor_val_three]
    show ((p.val + 8) * 1536 + k.val) * 768 + c.val = ((1 * 8 + p.val) * 1536 + k.val) * 768 + c.val
    omega)]
  rw [val_main_v10_apply, val_main_v9_apply, val_main_v8_apply, val_main_v7_apply]
  unfold wS
  refine congrArg (w _ * ·) (congrArg ws ?_)
  funext a
  match a with
  | ⟨0, _⟩ => rfl

/-- The next frame's gradient at an index. -/
theorem gn_apply (s : A3 4 2048 24) (dy : A3 4 16384 768) (b : Fin 4) (t : Fin 2047) (p : Fin 8) (c : Fin 768) :
    val_main_v12 (F := Ideal) s dy (ix4 b t p c) = gS dy s b (⟨t.val + 1, by omega⟩ : Fin 2048) p c := by
  unfold val_main_v12
  rw [extractStridedSlice_apply _ _ _ _ (ix4 b (⟨t.val + 1, by omega⟩ : Fin 2048) p c) (fun a => match a with
    | ⟨0, _⟩ => (Nat.zero_add _).symm
    | ⟨1, _⟩ => Nat.add_comm _ _
    | ⟨2, _⟩ => (Nat.zero_add _).symm
    | ⟨3, _⟩ => (Nat.zero_add _).symm)]
  exact g_apply s dy b _ p c

/-- The product over two contracted axes of a gradient with the taps, read at an index. -/
theorem dot0_apply (L : FVec Ideal S4x2048x8x768 .bf16) (R : FVec Ideal S8x1536x768 .bf16) (b : Fin 4) (t : Fin 2048) (k : Fin 1536) :
    Host.dotGeneral dot_S4x2048x8x768_S8x1536x768_S4x2048x1536_32_20_01_1_n_n none L R (ix3 b t k)
      = (∑ c : Fin 768, ∑ p : Fin 8, L (ix4 b t p c) * R (ix3 p k c) : EReal) := by
  let D := dot_S4x2048x8x768_S8x1536x768_S4x2048x1536_32_20_01_1_n_n
  have hr : D.contr.rank = 2 := rfl
  have c0 : D.contr.size ⟨0, by rw [hr]; omega⟩ = 768 := rfl
  have c1 : D.contr.size ⟨1, by rw [hr]; omega⟩ = 8 := rfl
  rw [Host.dotGeneral, Ideal.dotGeneral_apply, ← Equiv.sum_comp (contrEquiv2 D 768 8 hr c0 c1).symm, Fintype.sum_prod_type]
  refine Finset.sum_congr rfl fun c _ => Finset.sum_congr rfl fun p _ => ?_
  have h0 := contrEquiv2_symm_val0 D 768 8 hr c0 c1 (c, p)
  have h1 := contrEquiv2_symm_val1 D 768 8 hr c0 c1 (c, p)
  have el : D.lhsIdx (ix3 b t k) ((contrEquiv2 D 768 8 hr c0 c1).symm (c, p)) = ix4 b t p c := by
    funext a; apply Fin.ext
    match a with
    | ⟨0, _⟩ => rfl
    | ⟨1, _⟩ => rfl
    | ⟨2, _⟩ => exact h1
    | ⟨3, _⟩ => exact h0
  have er : D.rhsIdx (ix3 b t k) ((contrEquiv2 D 768 8 hr c0 c1).symm (c, p)) = ix3 p k c := by
    funext a; apply Fin.ext
    match a with
    | ⟨0, _⟩ => exact h1
    | ⟨1, _⟩ => rfl
    | ⟨2, _⟩ => exact h0
  rw [el, er]

/-- The same product over the frames after the first, read at an index. -/
theorem dot1_apply (L : FVec Ideal S4x2047x8x768 .bf16) (R : FVec Ideal S8x1536x768 .bf16) (b : Fin 4) (t : Fin 2047) (k : Fin 1536) :
    Host.dotGeneral dot_S4x2047x8x768_S8x1536x768_S4x2047x1536_32_20_01_1_n_n none L R (ix3 b t k)
      = (∑ c : Fin 768, ∑ p : Fin 8, L (ix4 b t p c) * R (ix3 p k c) : EReal) := by
  let D := dot_S4x2047x8x768_S8x1536x768_S4x2047x1536_32_20_01_1_n_n
  have hr : D.contr.rank = 2 := rfl
  have c0 : D.contr.size ⟨0, by rw [hr]; omega⟩ = 768 := rfl
  have c1 : D.contr.size ⟨1, by rw [hr]; omega⟩ = 8 := rfl
  rw [Host.dotGeneral, Ideal.dotGeneral_apply, ← Equiv.sum_comp (contrEquiv2 D 768 8 hr c0 c1).symm, Fintype.sum_prod_type]
  refine Finset.sum_congr rfl fun c _ => Finset.sum_congr rfl fun p _ => ?_
  have h0 := contrEquiv2_symm_val0 D 768 8 hr c0 c1 (c, p)
  have h1 := contrEquiv2_symm_val1 D 768 8 hr c0 c1 (c, p)
  have el : D.lhsIdx (ix3 b t k) ((contrEquiv2 D 768 8 hr c0 c1).symm (c, p)) = ix4 b t p c := by
    funext a; apply Fin.ext
    match a with
    | ⟨0, _⟩ => rfl
    | ⟨1, _⟩ => rfl
    | ⟨2, _⟩ => exact h1
    | ⟨3, _⟩ => exact h0
  have er : D.rhsIdx (ix3 b t k) ((contrEquiv2 D 768 8 hr c0 c1).symm (c, p)) = ix3 p k c := by
    funext a; apply Fin.ext
    match a with
    | ⟨0, _⟩ => exact h1
    | ⟨1, _⟩ => rfl
    | ⟨2, _⟩ => exact h0
  rw [el, er]

/-- The reference's weight-gradient product, contracted over batch and frame, read at an index. -/
theorem dot2_apply (L : FVec Ideal S4x2048x8x768 .bf16) (R : FVec Ideal S4x2048x1536 .bf16) (p : Fin 8) (c : Fin 768) (k : Fin 1536) :
    Host.dotGeneral dot_S4x2048x8x768_S4x2048x1536_S8x768x1536_01_01_23_2_n_n none L R (ix3 p c k)
      = (∑ b : Fin 4, ∑ t : Fin 2048, L (ix4 b t p c) * R (ix3 b t k) : EReal) := by
  let D := dot_S4x2048x8x768_S4x2048x1536_S8x768x1536_01_01_23_2_n_n
  have hr : D.contr.rank = 2 := rfl
  have c0 : D.contr.size ⟨0, by rw [hr]; omega⟩ = 4 := rfl
  have c1 : D.contr.size ⟨1, by rw [hr]; omega⟩ = 2048 := rfl
  rw [Host.dotGeneral, Ideal.dotGeneral_apply, ← Equiv.sum_comp (contrEquiv2 D 4 2048 hr c0 c1).symm, Fintype.sum_prod_type]
  refine Finset.sum_congr rfl fun b _ => Finset.sum_congr rfl fun t _ => ?_
  have h0 := contrEquiv2_symm_val0 D 4 2048 hr c0 c1 (b, t)
  have h1 := contrEquiv2_symm_val1 D 4 2048 hr c0 c1 (b, t)
  have el : D.lhsIdx (ix3 p c k) ((contrEquiv2 D 4 2048 hr c0 c1).symm (b, t)) = ix4 b t p c := by
    funext a; apply Fin.ext
    match a with
    | ⟨0, _⟩ => exact h0
    | ⟨1, _⟩ => exact h1
    | ⟨2, _⟩ => rfl
    | ⟨3, _⟩ => rfl
  have er : D.rhsIdx (ix3 p c k) ((contrEquiv2 D 4 2048 hr c0 c1).symm (b, t)) = ix3 b t k := by
    funext a; apply Fin.ext
    match a with
    | ⟨0, _⟩ => exact h0
    | ⟨1, _⟩ => exact h1
    | ⟨2, _⟩ => rfl
  rw [el, er]

/-- The same product over the frames after the first, read at an index. -/
theorem dot3_apply (L : FVec Ideal S4x2047x8x768 .bf16) (R : FVec Ideal S4x2047x1536 .bf16) (p : Fin 8) (c : Fin 768) (k : Fin 1536) :
    Host.dotGeneral dot_S4x2047x8x768_S4x2047x1536_S8x768x1536_01_01_23_2_n_n none L R (ix3 p c k)
      = (∑ b : Fin 4, ∑ t : Fin 2047, L (ix4 b t p c) * R (ix3 b t k) : EReal) := by
  let D := dot_S4x2047x8x768_S4x2047x1536_S8x768x1536_01_01_23_2_n_n
  have hr : D.contr.rank = 2 := rfl
  have c0 : D.contr.size ⟨0, by rw [hr]; omega⟩ = 4 := rfl
  have c1 : D.contr.size ⟨1, by rw [hr]; omega⟩ = 2047 := rfl
  rw [Host.dotGeneral, Ideal.dotGeneral_apply, ← Equiv.sum_comp (contrEquiv2 D 4 2047 hr c0 c1).symm, Fintype.sum_prod_type]
  refine Finset.sum_congr rfl fun b _ => Finset.sum_congr rfl fun t _ => ?_
  have h0 := contrEquiv2_symm_val0 D 4 2047 hr c0 c1 (b, t)
  have h1 := contrEquiv2_symm_val1 D 4 2047 hr c0 c1 (b, t)
  have el : D.lhsIdx (ix3 p c k) ((contrEquiv2 D 4 2047 hr c0 c1).symm (b, t)) = ix4 b t p c := by
    funext a; apply Fin.ext
    match a with
    | ⟨0, _⟩ => exact h0
    | ⟨1, _⟩ => exact h1
    | ⟨2, _⟩ => rfl
    | ⟨3, _⟩ => rfl
  have er : D.rhsIdx (ix3 p c k) ((contrEquiv2 D 4 2047 hr c0 c1).symm (b, t)) = ix3 b t k := by
    funext a; apply Fin.ext
    match a with
    | ⟨0, _⟩ => exact h0
    | ⟨1, _⟩ => exact h1
    | ⟨2, _⟩ => rfl
  rw [el, er]

/-- The frame each scattered update lands on: its own. -/
def land (j : S4x2047x1536.Idx) : S4x2048x1536.Idx :=
  ix3 (j 0 : Fin 4) (⟨(j 1).val, Nat.lt_succ_of_lt (j 1).isLt⟩ : Fin 2048) (j 2 : Fin 1536)

/-- The scatter sends distinct updates to distinct places. -/
theorem land_inj : Function.Injective land := by
  intro i j h
  funext a
  apply Fin.ext
  match a with
  | ⟨0, _⟩ => exact congrArg (fun f : S4x2048x1536.Idx => (f 0).val) h
  | ⟨1, _⟩ => exact congrArg (fun f : S4x2048x1536.Idx => (f 1).val) h
  | ⟨2, _⟩ => exact congrArg (fun f : S4x2048x1536.Idx => (f 2).val) h

/-- The scatter indices are zero. -/
theorem idx_zero (i : S1.Idx) : val_main_v20 (F := Ideal) i = (0#32 : BitVec 32) := rfl

/-- Where update `j` lands. -/
theorem lands (j : S4x2047x1536.Idx) :
    scatter_S4x2048x1536_S1_S4x2047x1536_012_n_1_0.resultIdx? j (val_main_v20 (F := Ideal)) = some (land j) := by
  have hst : ∀ a, scatter_S4x2048x1536_S1_S4x2047x1536_012_n_1_0.start j (val_main_v20 (F := Ideal)) a = 0 := by
    intro a
    unfold ScatterDims.start
    split
    · rw [idx_zero]; rfl
    · rfl
  have hw : ∀ a, scatter_S4x2048x1536_S1_S4x2047x1536_012_n_1_0.window j a = (land j a).val := by
    intro a
    match a with
    | ⟨0, _⟩ => rfl
    | ⟨1, _⟩ => rfl
    | ⟨2, _⟩ => rfl
  unfold ScatterDims.resultIdx?
  rw [dif_pos (fun a => by
    rw [hst a, hw a]
    have := (land j a).isLt
    omega)]
  refine congrArg some (funext fun a => Fin.ext ?_)
  show (_ + _ : Int).toNat = _
  rw [hst a, hw a]
  omega

/-- The reference's input gradient, read at an index. -/
theorem dx_apply (s : A3 4 2048 24) (ws : A1 768) (dy : A3 4 16384 768) (w : A3 16 1536 768) (b : Fin 4) (t : Fin 2048) (k : Fin 1536) :
    val_main_v22 (F := Ideal) s ws dy w (ix3 b t k) = dxS dy s w ws b t k := by
  have e16 : ∀ t : Fin 2048, val_main_v16 (F := Ideal) s ws dy w (ix3 b t k) = y0S dy s w ws b t k := by
    intro t
    unfold val_main_v16 y0S
    rw [dot0_apply, Finset.sum_comm]
    simp only [g_apply, w0_apply]
  have e19 : ∀ t : Fin 2047, val_main_v19 (F := Ideal) s ws dy w (ix3 b t k) = y1S dy s w ws b ⟨t.val + 1, by omega⟩ k := by
    intro t
    unfold val_main_v19 y1S
    rw [dot1_apply, Finset.sum_comm]
    simp only [gn_apply, w1_apply]
  unfold val_main_v22
  rw [ValueIdx.truncf_apply]
  unfold val_main_v21 dxS
  by_cases h : t.val + 1 < 2048
  · rw [dif_pos h]
    have hl : ix3 b t k = land (ix3 b (⟨t.val, by omega⟩ : Fin 2047) k) := by
      funext a
      match a with
      | ⟨0, _⟩ => rfl
      | ⟨1, _⟩ => rfl
      | ⟨2, _⟩ => rfl
    rw [hl, scatter_hit _ _ _ _ _ land land_inj lands, ← hl, e16, e19]
    rfl
  · rw [dif_neg h, add_zero, scatter_miss _ _ _ _ _ land land_inj lands, e16]
    intro j hj
    have := congrArg (fun f : S4x2048x1536.Idx => (f 1).val) hj
    have h1 : (j 1).val = t.val := this
    have h2 : (j 1).val < 2047 := (j 1).isLt
    omega

/-- The reference's weight gradient of the first taps, read at an index. -/
theorem dw0_apply (x : A3 4 2048 1536) (s : A3 4 2048 24) (dy : A3 4 16384 768) (p : Fin 8) (k : Fin 1536) (c : Fin 768) :
    val_main_v30 (F := Ideal) x s dy (ix3 (⟨p.val, by omega⟩ : Fin 16) k c) = dw0S x dy s p k c := by
  unfold val_main_v30
  rw [shapeCast_apply _ _ _ (ix4 (0 : Fin 2) p k c) (by
    rw [Shape.rowMajor_val_four, Shape.rowMajor_val_three]
    show ((0 * 8 + p.val) * 1536 + k.val) * 768 + c.val = (p.val * 1536 + k.val) * 768 + c.val
    omega)]
  unfold val_main_v29
  rw [concatenate_pair_apply_left (t := S2x8x1536x768) (s₁ := S1x8x1536x768) (s₂ := S1x8x1536x768) 0 _ _ _ (ix4 (0 : Fin 2) p k c) rfl (ix4 (0 : Fin 1) p k c) (fun a => match a with
    | ⟨0, _⟩ => rfl
    | ⟨1, _⟩ => rfl
    | ⟨2, _⟩ => rfl
    | ⟨3, _⟩ => rfl)]
  rw [val_main_v27_apply, val_main_v24_apply]
  have hi : idx_main_v24 (idx_main_v27 (ix4 (0 : Fin 1) p k c)) = ix3 p c k := by
    funext a
    match a with
    | ⟨0, _⟩ => rfl
    | ⟨1, _⟩ => rfl
    | ⟨2, _⟩ => rfl
  rw [hi]
  unfold val_main_v23 dw0S
  rw [dot2_apply]
  simp only [g_apply]
  exact Finset.sum_congr rfl fun b _ => Finset.sum_congr rfl fun t _ => mul_comm _ _

/-- The reference's weight gradient of the last taps, read at an index. -/
theorem dw1_apply (x : A3 4 2048 1536) (s : A3 4 2048 24) (dy : A3 4 16384 768) (p : Fin 8) (k : Fin 1536) (c : Fin 768) :
    val_main_v30 (F := Ideal) x s dy (ix3 (⟨p.val + 8, by omega⟩ : Fin 16) k c) = dw1S x dy s p k c := by
  unfold val_main_v30
  rw [shapeCast_apply _ _ _ (ix4 (1 : Fin 2) p k c) (by
    rw [Shape.rowMajor_val_four, Shape.rowMajor_val_three]
    show ((1 * 8 + p.val) * 1536 + k.val) * 768 + c.val = ((p.val + 8) * 1536 + k.val) * 768 + c.val
    omega)]
  unfold val_main_v29
  rw [concatenate_pair_apply_right (t := S2x8x1536x768) (s₁ := S1x8x1536x768) (s₂ := S1x8x1536x768) 0 _ _ _ (ix4 (1 : Fin 2) p k c) rfl rfl (ix4 (0 : Fin 1) p k c) (fun a ha => match a with
    | ⟨0, _⟩ => absurd rfl ha
    | ⟨1, _⟩ => rfl
    | ⟨2, _⟩ => rfl
    | ⟨3, _⟩ => rfl) rfl]
  rw [val_main_v28_apply, val_main_v26_apply]
  have hi : idx_main_v26 (idx_main_v28 (ix4 (0 : Fin 1) p k c)) = ix3 p c k := by
    funext a
    match a with
    | ⟨0, _⟩ => rfl
    | ⟨1, _⟩ => rfl
    | ⟨2, _⟩ => rfl
  rw [hi]
  unfold val_main_v25 dw1S
  rw [dot3_apply]
  simp only [gn_apply]
  refine Finset.sum_congr rfl fun b _ => Finset.sum_congr rfl fun t _ => ?_
  rw [mul_comm]
  refine congrArg (· * _) ?_
  unfold val_main_v13
  exact extractStridedSlice_apply _ _ _ _ _ (fun a => match a with
    | ⟨0, _⟩ => (Nat.zero_add _).symm
    | ⟨1, _⟩ => (Nat.zero_add _).symm
    | ⟨2, _⟩ => (Nat.zero_add _).symm)

end Cert.RefVal

end
-- ==== Proof.Value.RefRun.lean ====
module

public import proofs.«01_k».proof.Proof.Value.RefVal

@[expose] public section

noncomputable section

namespace Cert.RefVal

open Cert.ReferenceIdeal Cert.ReferenceIdeal.Gen Cert.ReferenceIdeal.Read Idealize.ShloMosaic Idealize.ShloMosaic.TcCoe Idealize.SL.Sem
open Idealize.ShloMosaic.Pipeline (Dat)
open Cert.ReferenceIdeal.Value (exitV reg_main_v0_0 reg_main_v0_1)

variable (m : (ℓ : Loc nD τ sig) → Buf (Elt Ideal) ℓ)

/-- Three zero offsets are the zero offset. -/
theorem hz3 : (![0, 0, 0] : Fin 3 → Nat) = fun _ => 0 := funext fun a => by fin_cases a <;> rfl

/-- The only grid point. -/
def p0 : Fin cfg0.N := (⟨0, by decide +kernel⟩ : Fin grid0.N)

/-- Every window of the reference's kernel is its whole array. -/
theorem ref_index : ∀ t : Fin cfg0.N, ∀ a : Fin 3, win0_0.index t a = 0 ∧ win0_1.index t a = 0 ∧ win0_2.index t a = 0 ∧ win0_3.index t a = 0 :=
  (by decide +kernel : ∀ t : Fin grid0.N, ∀ a : Fin 3, win0_0.index t a = 0 ∧ win0_1.index t a = 0 ∧ win0_2.index t a = 0 ∧ win0_3.index t a = 0)

/-- The reference kernel's first block is the gradient's codes. -/
theorem blk0 (c : Dev nD) (t : Fin cfg0.N) : iblk m c 0 t = m ((c : Thread nD τ).loc main_arg1) := by
  funext j
  unfold iblk
  rw [View.read_apply]
  show V m c main_arg1 _ = m (c.tc.loc main_arg1) _
  unfold V
  congr 1
  funext a
  apply Fin.ext
  match a with
  | ⟨0, _⟩ => show win0_0.index t 0 * 4 + 1 * (j 0).val = (j 0).val; rw [(ref_index t 0).1]; omega
  | ⟨1, _⟩ => show win0_0.index t 1 * 16384 + 1 * (j 1).val = (j 1).val; rw [(ref_index t 1).1]; omega
  | ⟨2, _⟩ => show win0_0.index t 2 * 768 + 1 * (j 2).val = (j 2).val; rw [(ref_index t 2).1]; omega

/-- The reference kernel's second block is the weight's codes. -/
theorem blk1 (c : Dev nD) (t : Fin cfg0.N) : iblk m c 1 t = m ((c : Thread nD τ).loc main_arg3) := by
  funext j
  unfold iblk
  rw [View.read_apply]
  show V m c main_arg3 _ = m (c.tc.loc main_arg3) _
  unfold V
  congr 1
  funext a
  apply Fin.ext
  match a with
  | ⟨0, _⟩ => show win0_1.index t 0 * 16 + 1 * (j 0).val = (j 0).val; rw [(ref_index t 0).2.1]; omega
  | ⟨1, _⟩ => show win0_1.index t 1 * 1536 + 1 * (j 1).val = (j 1).val; rw [(ref_index t 1).2.1]; omega
  | ⟨2, _⟩ => show win0_1.index t 2 * 768 + 1 * (j 2).val = (j 2).val; rw [(ref_index t 2).2.1]; omega

/-- The reference kernel's first result block is its first input block. -/
theorem out2_eq (x0 : Vec Ideal S4x16384x768 .fp8e5m2) (x1 : Vec Ideal S16x1536x768 .fp8e4m3) : out0_2 x0 x1 = x0 := by
  unfold out0_2
  rw [View.canon_unit_zero hz3]
  unfold k0_pay1
  simp only [View.ld_unit_zero (S := S4x16384x768) hz3, shapeCast_self]
  rfl

/-- The reference kernel's second result block is its second input block. -/
theorem out3_eq (x0 : Vec Ideal S4x16384x768 .fp8e5m2) (x1 : Vec Ideal S16x1536x768 .fp8e4m3) : out0_3 x0 x1 = x1 := by
  unfold out0_3
  rw [View.canon_unit_zero hz3]
  unfold k0_pay2
  simp only [View.ld_unit_zero (S := S16x1536x768) hz3, shapeCast_self]
  rfl

/-- The reference's kernel leaves the gradient's codes, widened. -/
theorem reg0_eq (c : Dev nD) : reg_main_v0_0 m c = m ((c : Thread nD τ).loc main_arg1) := by
  unfold reg_main_v0_0
  refine (dats m 0 c).arrAt_eq_of_cover 2 _ (fun t hf => ?_) (fun i => ⟨p0, flush0_2 _, ?_⟩)
  · show (cfg0.win 2).cut (grid0.coords t) ((dats m 0 c).after 2 t) = _
    rw [after0_2, out2_eq, blk0]
    have hz' : (fun a => win0_2.index t a * main_v0_0.ty.shape.size a) = fun _ => 0 := funext fun a => by
      rw [(ref_index t a).2.2.1, Nat.zero_mul]
    exact (Memref.read_access_unit_zero (Elt Ideal) main_v0_0 hz' (fun a => by rw [congrFun hz' a]; simp) (m ((c : Thread nD τ).loc main_arg1))).symm
  · show i ∈ ((View.whole main_v0_0).slice (win0_2.rect p0)).set
    rw [View.set_slice_whole, Rect.mem_set_unit]
    intro a
    show win0_2.index p0 a * win0_2.size a ≤ (i a : Nat) ∧ (i a : Nat) < win0_2.index p0 a * win0_2.size a + win0_2.xsize (grid0.coords p0) a
    have h := (ref_index p0 a).2.2.1
    have hl : (i a : Nat) < S4x16384x768.size a := (i a).isLt
    rw [h, Nat.zero_mul, Nat.zero_add]
    exact ⟨Nat.zero_le _, hl⟩

/-- The reference's kernel leaves the weight's codes, widened. -/
theorem reg1_eq (c : Dev nD) : reg_main_v0_1 m c = m ((c : Thread nD τ).loc main_arg3) := by
  unfold reg_main_v0_1
  refine (dats m 0 c).arrAt_eq_of_cover 3 _ (fun t hf => ?_) (fun i => ⟨p0, flush0_3 _, ?_⟩)
  · show (cfg0.win 3).cut (grid0.coords t) ((dats m 0 c).after 3 t) = _
    rw [after0_3, out3_eq, blk1]
    have hz' : (fun a => win0_3.index t a * main_v0_1.ty.shape.size a) = fun _ => 0 := funext fun a => by
      rw [(ref_index t a).2.2.2, Nat.zero_mul]
    exact (Memref.read_access_unit_zero (Elt Ideal) main_v0_1 hz' (fun a => by rw [congrFun hz' a]; simp) (m ((c : Thread nD τ).loc main_arg3))).symm
  · show i ∈ ((View.whole main_v0_1).slice (win0_3.rect p0)).set
    rw [View.set_slice_whole, Rect.mem_set_unit]
    intro a
    show win0_3.index p0 a * win0_3.size a ≤ (i a : Nat) ∧ (i a : Nat) < win0_3.index p0 a * win0_3.size a + win0_3.xsize (grid0.coords p0) a
    have h := (ref_index p0 a).2.2.2
    have hl : (i a : Nat) < S16x1536x768.size a := (i a).isLt
    rw [h, Nat.zero_mul, Nat.zero_add]
    exact ⟨Nat.zero_le _, hl⟩

/-- The reference's run: its results are the stages of its arguments, which it leaves unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v22)
        = val_main_v22 (F := Ideal) (m ((c.tc : Thread nD τ).loc main_arg2)) (m ((c.tc : Thread nD τ).loc main_arg4))
            (m ((c.tc : Thread nD τ).loc main_arg1)) (m ((c.tc : Thread nD τ).loc main_arg3))
      ∧ r.2.mem ((c.tc : Thread nD τ).loc main_v30)
        = val_main_v30 (F := Ideal) (m ((c.tc : Thread nD τ).loc main_arg0)) (m ((c.tc : Thread nD τ).loc main_arg2))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨by
      rw [← reg0_eq m c, ← reg1_eq m c]
      exact (h c).1, by
      rw [← reg0_eq m c]
      exact (h c).2.1, (h c).2.2⟩) (Cert.ReferenceIdeal.Value.run m ρ)

end Cert.RefVal

end
-- ==== Proof.Value.Pay.lean ====
module

public import proofs.«01_k».proof.Proof.Value.Spec
public import proofs.«01_k».proof.Proof.Gen.KernelIdeal.Skeleton
public import Idealize.ShloMosaic.PureOps.Ideal.Laws
public import Idealize.ShloMosaic.Lib.ValueLayout
public import Idealize.ShloMosaic.Lib.MatmulPlain
public import Idealize.ShloMosaic.Lib.KernelVsHost

@[expose] public section

noncomputable section

namespace Cert.KernelIdeal.Pay

open Cert.KernelIdeal Cert.KernelIdeal.Gen Idealize.ShloMosaic Idealize.ShloMosaic.ValueIdx
open scoped BigOperators

/-- The group number of each column, as the kernel computes it: the floor of the column number by 32. -/
def groupOf : IVec S24x768 32 :=
  have v6 : IVec S24x768 32 := iota .tc S24x768 32 [1] iota_S24x768_d1_w32
  have v7 : IVec S24x768 32 := broadcast S24x768 32#32
  have v8 : IVec S24x768 32 := divsi v6 v7
  have v9 : IVec S24x768 32 := broadcast S24x768 0#32
  have v10 : IVec S24x768 1 := cmpi .sgt v6 v9
  have v11 : IVec S24x768 32 := extui 32 v10 natLt_1_32
  have v12 : IVec S24x768 32 := broadcast S24x768 0#32
  have v13 : IVec S24x768 1 := cmpi .slt v6 v12
  have v14 : IVec S24x768 32 := extui 32 v13 natLt_1_32
  have v15 : IVec S24x768 32 := subi v11 v14
  let v16 : BitVec 1 := Scalar.cmpi .sgt 32#32 0#32
  let v17 : BitVec 32 := Scalar.extui v16
  let v18 : BitVec 1 := Scalar.cmpi .slt 32#32 0#32
  let v19 : BitVec 32 := Scalar.extui v18
  let v20 : BitVec 32 := Scalar.subi v17 v19
  have v21 : IVec S24x768 32 := broadcast S24x768 v20
  have v22 : IVec S24x768 1 := cmpi .ne v15 v21
  have v23 : IVec S24x768 32 := broadcast S24x768 32#32
  have v24 : IVec S24x768 32 := remsi v6 v23
  have v25 : IVec S24x768 32 := broadcast S24x768 0#32
  have v26 : IVec S24x768 1 := cmpi .ne v24 v25
  have v27 : IVec S24x768 1 := andi v22 v26
  have v28 : IVec S24x768 32 := broadcast S24x768 1#32
  have v29 : IVec S24x768 32 := subi v8 v28
  select v27 v29 v8

/-- The indicator of a column's group, as words. -/
def hotW : IVec S24x768 32 := extui 32 (cmpi .eq groupOf (iota .tc S24x768 32 [0] iota_S24x768_d0_w32)) natLt_1_32

/-- The group number depends on the column only. -/
theorem group_row (g : Fin 24) (c : Fin 768) : groupOf (ix2 g c) = groupOf (ix2 (0 : Fin 24) c) := rfl

/-- The group number is the column's quotient by 32. -/
theorem group_col : ∀ c : Fin 768, groupOf (ix2 (0 : Fin 24) c) = BitVec.ofNat 32 (c.val / 32) := by decide +kernel

/-- The indicator of equal small words. -/
theorem group_eq : ∀ g q : Fin 24, BitVec.setWidth 32 (BitVec.ofBool (BitVec.ofNat 32 q.val == BitVec.ofNat 32 g.val))
    = if g.val = q.val then 1#32 else 0#32 := by decide +kernel

/-- The indicator of a column's group: one at the row of that group, zero at the others. -/
theorem hotW_apply (g : Fin 24) (c : Fin 768) : hotW (ix2 g c) = if g.val = c.val / 32 then 1#32 else 0#32 := by
  have h : hotW (ix2 g c) = BitVec.setWidth 32 (BitVec.ofBool (groupOf (ix2 (0 : Fin 24) c) == BitVec.ofNat 32 g.val)) := by
    show BitVec.setWidth 32 (BitVec.ofBool (groupOf (ix2 g c) == iota .tc S24x768 32 [0] iota_S24x768_d0_w32 (ix2 g c))) = _
    rw [iota_single_apply, group_row]
  rw [h, group_col, group_eq g ⟨c.val / 32, by omega⟩]

/-- The indicator as floats. -/
def hot : FVec Ideal S24x768 .bf16 := truncf .bf16 (sitofp .f32 hotW) bitsLt_bf16_f32

/-- The one-hot matrix holds one where the row is the group of the column, zero elsewhere. -/
theorem hot_apply (g : Fin 24) (c : Fin 768) : hot (ix2 g c) = if g.val = c.val / 32 then (1 : EReal) else 0 := by
  show ((((hotW (ix2 g c)).toInt : ℤ) : ℝ) : EReal) = _
  rw [hotW_apply]
  split
  · norm_num
  · norm_num

/-- The scales times the indicator pick each column's group's scale. -/
theorem scale_apply (s : FVec Ideal S1024x24 .bf16) (r : Fin 1024) (c : Fin 768) :
    matmul dot_S1024x24_S24x768_S1024x768_1_0_0_1_n_n none s hot (constant S1024x768 .f32 0x00000000#32) (ix2 r c)
      = s (ix2 r (⟨c.val / 32, by omega⟩ : Fin 24)) := by
  show FloatOps.matmul (DotDims.plain 1024 24 768) none s hot (constant S1024x768 .f32 0x00000000#32) (ix2 r c) = _
  rw [Ideal.matmul_plain_apply, constant_apply, Ideal.ofBits_zero_f32, zero_add,
    Finset.sum_eq_single (⟨c.val / 32, by omega⟩ : Fin 24)]
  · rw [hot_apply, if_pos rfl, mul_one]
  · intro g _ hg
    rw [hot_apply, if_neg (fun h => hg (Fin.ext h)), mul_zero]
  · intro h; exact absurd (Finset.mem_univ _) h

/-- The input-gradient kernel's dequantised gradient block at an index. -/
theorem pay9_apply (v0 : Vec Ideal S1x1024x768 .fp8e5m2) (v3 : Vec Ideal S1x1024x24 .f32) (r : Fin 1024) (c : Fin 768) :
    (k0_pay9 (F := Ideal) v0 v3 (ix2 r c) : EReal) = (v0 (ix3 (0 : Fin 1) r c) : EReal) * v3 (ix3 (0 : Fin 1) r (⟨c.val / 32, by omega⟩ : Fin 24)) := by
  show (shapeCast S1024x768 v0 shapeCasts_S1x1024x768_S1024x768 (ix2 r c) : EReal)
    * matmul dot_S1024x24_S24x768_S1024x768_1_0_0_1_n_n none (truncf .bf16 (shapeCast S1024x24 v3 shapeCasts_S1x1024x24_S1024x24 : FVec Ideal S1024x24 .f32) bitsLt_bf16_f32) hot
        (constant S1024x768 .f32 0x00000000#32) (ix2 r c) = _
  rw [scale_apply, truncf_apply, shapeCast_1ab_ab_apply, shapeCast_1ab_ab_apply]

/-- The weight-gradient kernel's dequantised gradient block at an index. -/
theorem pay3_apply (v0 : Vec Ideal S1024x768 .fp8e5m2) (v3 : Vec Ideal S1024x24 .f32) (r : Fin 1024) (c : Fin 768) :
    (k1_pay3 (F := Ideal) v0 v3 (ix2 r c) : EReal) = (v0 (ix2 r c) : EReal) * v3 (ix2 r (⟨c.val / 32, by omega⟩ : Fin 24)) := by
  show (shapeCast S1024x768 v0 shapeCasts_S1024x768_S1024x768 (ix2 r c) : EReal)
    * matmul dot_S1024x24_S24x768_S1024x768_1_0_0_1_n_n none (truncf .bf16 (shapeCast S1024x24 v3 shapeCasts_S1024x24_S1024x24 : FVec Ideal S1024x24 .f32) bitsLt_bf16_f32) hot
        (constant S1024x768 .f32 0x00000000#32) (ix2 r c) = _
  rw [scale_apply, truncf_apply, shapeCast_self, shapeCast_self]

/-- One step of the first accumulator at an index. -/
theorem pay4_apply (g : FVec Ideal S1024x768 .bf16) (ws : FVec Ideal S1x768 .f32) (acc : Vec Ideal S1024x1536 .f32) (w : Vec Ideal S1x1536x768 .fp8e4m3)
    (r : Fin 1024) (k : Fin 1536) :
    (k0_pay4 (F := Ideal) g ws acc w (ix2 r k) : EReal)
      = (acc (ix2 r k) : EReal) + ∑ c : Fin 768, (g (ix2 r c) : EReal) * ((w (ix3 (0 : Fin 1) k c) : EReal) * ws (ix2 (0 : Fin 1) c)) := by
  unfold k0_pay4
  rw [shapeCast_self, addf_apply]
  refine congrArg ((acc (ix2 r k) : EReal) + ·) ?_
  show FloatOps.matmul (DotDims.transposedRhs 1024 768 1536) none g _ (constant S1024x1536 .f32 0x00000000#32) (ix2 r k) = _
  rw [Ideal.matmul_transposedRhs_apply, constant_apply, Ideal.ofBits_zero_f32, zero_add]
  refine Finset.sum_congr rfl fun c _ => ?_
  rw [mulf_apply, extf_apply, shapeCast_1ab_ab_apply, broadcastTo_1b_ab_apply]
  rfl

/-- One step of the second accumulator at an index. -/
theorem pay5_apply (g : FVec Ideal S1024x768 .bf16) (ws : FVec Ideal S1x768 .f32) (acc : Vec Ideal S1024x1536 .f32) (w : Vec Ideal S1x1536x768 .fp8e4m3)
    (r : Fin 1024) (k : Fin 1536) :
    (k0_pay5 (F := Ideal) g ws acc w (ix2 r k) : EReal)
      = (acc (ix2 r k) : EReal) + ∑ c : Fin 768, (g (ix2 r c) : EReal) * ((w (ix3 (0 : Fin 1) k c) : EReal) * ws (ix2 (0 : Fin 1) c)) :=
  pay4_apply g ws acc w r k

/-- The accumulators start at zero. -/
theorem pay2_apply (i : S1024x1536.Idx) : (k0_pay2 (F := Ideal) i : EReal) = 0 := by
  unfold k0_pay2
  rw [shapeCast_self]
  exact Ideal.ofBits_zero_f32
/-- The zero stored into an accumulator is zero at each index. -/
theorem pay3z_apply (i : S1024x1536.Idx) : (k0_pay3 (F := Ideal) i : EReal) = 0 := by
  unfold k0_pay3
  rw [shapeCast_self]
  exact Ideal.ofBits_zero_f32
/-- The carried rows start at zero. -/
theorem pay6_apply (i : S8x1536.Idx) : (k0_pay6 (F := Ideal) i : EReal) = 0 := by
  unfold k0_pay6
  rw [shapeCast_self]
  exact Ideal.ofBits_zero_f32
/-- The weight scales, loaded and narrowed, are themselves over exact reals. -/
theorem pay10_eq (v : Vec Ideal S1x768 .f32) : k0_pay10 (F := Ideal) v = v := by
  unfold k0_pay10
  rw [shapeCast_self]
/-- The weight gradient's block starts at zero. -/
theorem pay4z_apply (i : S2x1x1536x768.Idx) : (k1_pay4 (F := Ideal) i : EReal) = 0 := by
  unfold k1_pay4
  exact Ideal.ofBits_zero_f32

/-- The carried rows are the first eight. -/
theorem pay8_apply (y : Vec Ideal S1024x1536 .f32) (r : Fin 8) (k : Fin 1536) :
    k0_pay8 (F := Ideal) y (ix2 r k) = y (ix2 (⟨r.val, by omega⟩ : Fin 1024) k) := by
  unfold k0_pay8
  rw [shapeCast_self]
  exact extractStridedSlice_apply _ _ _ _ _ (fun a => match a with
    | ⟨0, _⟩ => (Nat.zero_add _).symm
    | ⟨1, _⟩ => (Nat.zero_add _).symm)

/-- Which rows are the block's last. -/
theorem last_apply : ∀ r : Fin 1024, (BitVec.ofNat 32 r.val == 1023#32) = decide (r.val = 1023) := by decide +kernel

/-- The output block: the first product's row plus the second product's next row, and the carried row after the last. -/
theorem pay7_apply (y1 : Vec Ideal S1024x1536 .f32) (cr : Vec Ideal S1x1536 .f32) (y0 : Vec Ideal S1024x1536 .f32) (r : Fin 1024) (k : Fin 1536) :
    (k0_pay7 (F := Ideal) y1 cr y0 (ix3 (0 : Fin 1) r k) : EReal)
      = (y0 (ix2 r k) : EReal) + if h : r.val + 1 < 1024 then y1 (ix2 (⟨r.val + 1, h⟩ : Fin 1024) k) else cr (ix2 (0 : Fin 1) k) := by
  unfold k0_pay7
  rw [shapeCast_ab_1ab_apply, truncf_apply, addf_apply]
  refine congrArg ((y0 (ix2 r k) : EReal) + ·) ?_
  rw [select_apply]
  have hc : cmpi .eq (iota .tc S1024x1536 32 [0] iota_S1024x1536_d0_w32) (broadcast S1024x1536 1023#32) (ix2 r k)
      = if r.val = 1023 then 1#1 else 0#1 := by
    show BitVec.ofBool (iota .tc S1024x1536 32 [0] iota_S1024x1536_d0_w32 (ix2 r k) == 1023#32) = _
    rw [iota_single_apply]
    rw [show (BitVec.ofNat 32 ((ix2 r k : S1024x1536.Idx) 0).val == 1023#32) = decide (r.val = 1023) from last_apply r]
    by_cases h : r.val = 1023
    · rw [if_pos h, decide_eq_true h]; rfl
    · rw [if_neg h, decide_eq_false h]; rfl
  rw [hc]
  by_cases h : r.val + 1 < 1024
  · rw [dif_pos h, if_neg (by omega), select_zero]
    refine dynamicRotate_apply _ _ _ _ _ (ix2 (⟨r.val + 1, h⟩ : Fin 1024) k) (fun b => ?_)
    match b with
    | ⟨0, _⟩ =>
      exact (by omega : r.val + 1 = (r.val + 1024 - 1023 % 1024) % 1024)
    | ⟨1, _⟩ => rfl
  · rw [dif_neg h, if_pos (by omega), select_one, broadcastTo_1b_ab_apply, shapeCast_self]

/-- The weight-gradient product, contracted over the block's rows, read at an index. -/
theorem mm_apply (x : FVec Ideal S1024x1536 .bf16) (g : FVec Ideal S1024x768 .bf16) (k : Fin 1536) (c : Fin 768) :
    matmul dot_S1024x1536_S1024x768_S1536x768_0_0_1_1_n_n none x g (constant S1536x768 .f32 0x00000000#32) (ix2 k c)
      = (∑ r : Fin 1024, x (ix2 r k) * g (ix2 r c) : EReal) := by
  let D := dot_S1024x1536_S1024x768_S1536x768_0_0_1_1_n_n
  have hr : D.contr.rank = 1 := rfl
  have hs : D.contr.size ⟨0, by rw [hr]; omega⟩ = 1024 := rfl
  show FloatOps.matmul D none x g (constant S1536x768 .f32 0x00000000#32) (ix2 k c) = _
  rw [Ideal.matmul_constant_zero_apply, ← Equiv.sum_comp (contrEquiv1 D 1024 hr hs).symm]
  refine Finset.sum_congr rfl fun r _ => ?_
  have hk := contrEquiv1_symm_val D 1024 hr hs r
  have el : D.lhsIdx (ix2 k c) ((contrEquiv1 D 1024 hr hs).symm r) = ix2 r k := by
    funext a; apply Fin.ext
    match a with
    | ⟨0, _⟩ => exact hk
    | ⟨1, _⟩ => rfl
  have er : D.rhsIdx (ix2 k c) ((contrEquiv1 D 1024 hr hs).symm r) = ix2 r c := by
    funext a; apply Fin.ext
    match a with
    | ⟨0, _⟩ => exact hk
    | ⟨1, _⟩ => rfl
  rw [el, er]

/-- One step of the weight gradient's first slab at an index. -/
theorem dpay1_apply (g : FVec Ideal S1024x768 .bf16) (o : Vec Ideal S1x1x1536x768 .f32) (x : Vec Ideal S1024x1536 .bf16) (k : Fin 1536) (c : Fin 768) :
    (k1_pay1 (F := Ideal) g o x (ix4 (0 : Fin 1) (0 : Fin 1) k c) : EReal)
      = (o (ix4 (0 : Fin 1) (0 : Fin 1) k c) : EReal) + ∑ r : Fin 1024, (x (ix2 r k) : EReal) * g (ix2 r c) := by
  unfold k1_pay1
  rw [shapeCast_apply _ _ (ix4 (0 : Fin 1) (0 : Fin 1) k c) (ix2 k c) (by
    rw [Shape.rowMajor_val_four, Shape.rowMajor_val_two]
    show k.val * 768 + c.val = ((0 * 1 + 0) * 1536 + k.val) * 768 + c.val
    omega), addf_apply, mm_apply, shapeCast_self,
    shapeCast_apply _ _ (ix2 k c) (ix4 (0 : Fin 1) (0 : Fin 1) k c) (by
    rw [Shape.rowMajor_val_four, Shape.rowMajor_val_two]
    show ((0 * 1 + 0) * 1536 + k.val) * 768 + c.val = k.val * 768 + c.val
    omega)]

/-- One step of the weight gradient's second slab at an index. -/
theorem dpay2_apply (g : FVec Ideal S1024x768 .bf16) (o : Vec Ideal S1x1x1536x768 .f32) (x : Vec Ideal S1024x1536 .bf16) (k : Fin 1536) (c : Fin 768) :
    (k1_pay2 (F := Ideal) g o x (ix4 (0 : Fin 1) (0 : Fin 1) k c) : EReal)
      = (o (ix4 (0 : Fin 1) (0 : Fin 1) k c) : EReal) + ∑ r : Fin 1024, (x (ix2 r k) : EReal) * g (ix2 r c) :=
  dpay1_apply g o x k c

end Cert.KernelIdeal.Pay

end
-- ==== Proof.Value.DxVal.lean ====
module

public import proofs.«01_k».proof.Proof.Value.Pay
public import proofs.«01_k».proof.Proof.KernelIdeal.Dx

@[expose] public section

set_option maxRecDepth 16384

noncomputable section

namespace Cert.KernelIdeal.Val

open Cert.KernelIdeal Cert.KernelIdeal.Gen Cert.KernelIdeal.Pay Cert.Spec Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b)) (c : Dev nD)
variable (dy : A3 4 16384 768) (s : A3 4 2048 24) (w : A3 16 1536 768) (ws : A1 768)

/-- What the input-gradient kernel finds in its arrays: the gradient's codes grouped by frame, the scales, the weight. -/
structure DxIn : Prop where
  h0 : ∀ (b : Fin 4) (t : Fin 2048) (p : Fin 8) (k : Fin 768),
    (V c main_v0 (ix3 b t (⟨p.val * 768 + k.val, by omega⟩ : Fin 6144)) : EReal) = dy (ix3 b (⟨t.val * 8 + p.val, by omega⟩ : Fin 16384) k)
  h1 : ∀ k : Fin 768, (V c main_v1 (ix2 (0 : Fin 1) k) : EReal) = ws (ix1 k)
  h2 : V c main_arg2 = s
  h3 : V c main_arg3 = w

/-- Where each window's block sits at a point. -/
theorem dx_idx : ∀ t : Fin cfg0.N,
    (win0_0.index t 0 = t.val / 16 ∧ win0_0.index t 1 = 1 - t.val / 8 % 2 ∧ win0_0.index t 2 = t.val % 8)
    ∧ (win0_1.index t 0 = t.val / 16 ∧ win0_1.index t 1 = 1 - t.val / 8 % 2 ∧ win0_1.index t 2 = 0)
    ∧ (win0_2.index t 0 = t.val % 8 ∧ win0_2.index t 1 = 0 ∧ win0_2.index t 2 = 0)
    ∧ (win0_3.index t 0 = t.val % 8 + 8 ∧ win0_3.index t 1 = 0 ∧ win0_3.index t 2 = 0)
    ∧ (win0_4.index t 0 = 0 ∧ win0_4.index t 1 = 0)
    ∧ (win0_5.index t 0 = t.val / 16 ∧ win0_5.index t 1 = 1 - t.val / 8 % 2 ∧ win0_5.index t 2 = 0) :=
  (by decide +kernel : ∀ t : Fin grid0.N,
    (win0_0.index t 0 = t.val / 16 ∧ win0_0.index t 1 = 1 - t.val / 8 % 2 ∧ win0_0.index t 2 = t.val % 8)
    ∧ (win0_1.index t 0 = t.val / 16 ∧ win0_1.index t 1 = 1 - t.val / 8 % 2 ∧ win0_1.index t 2 = 0)
    ∧ (win0_2.index t 0 = t.val % 8 ∧ win0_2.index t 1 = 0 ∧ win0_2.index t 2 = 0)
    ∧ (win0_3.index t 0 = t.val % 8 + 8 ∧ win0_3.index t 1 = 0 ∧ win0_3.index t 2 = 0)
    ∧ (win0_4.index t 0 = 0 ∧ win0_4.index t 1 = 0)
    ∧ (win0_5.index t 0 = t.val / 16 ∧ win0_5.index t 1 = 1 - t.val / 8 % 2 ∧ win0_5.index t 2 = 0))

/-- There are 64 points. -/
theorem dx_lt (t : Fin cfg0.N) : t.val < 64 := lt_of_lt_of_eq t.isLt (show cfg0.N = 64 from N_0)

/-- The batch entry of a point. -/
def bOf (t : Fin cfg0.N) : Fin 4 := ⟨t.val / 16, by have := dx_lt t; omega⟩
/-- The frame a row of a point's block is. -/
def tOf (t : Fin cfg0.N) (r : Fin 1024) : Fin 2048 := ⟨(1 - t.val / 8 % 2) * 1024 + r.val, by omega⟩
/-- The phase of a point. -/
def pOf (t : Fin cfg0.N) : Fin 8 := ⟨t.val % 8, by omega⟩

/-- The gradient codes' block of a point, at an index of their array. -/
theorem xblk0 (t : Fin cfg0.N) (r : Fin 1024) (k : Fin 768) :
    xblk V c 0 t (ix3 (0 : Fin 1) r k) = V c main_v0 (ix3 (bOf t) (tOf t r) (⟨(pOf t).val * 768 + k.val, by omega⟩ : Fin 6144)) := by
  unfold xblk
  rw [View.read_apply]
  show V c main_v0 _ = V c main_v0 _
  congr 1
  funext a
  apply Fin.ext
  obtain ⟨⟨e0, e1, e2⟩, -⟩ := dx_idx t
  match a with
  | ⟨0, _⟩ => show win0_0.index t 0 * 1 + 1 * 0 = t.val / 16; rw [e0]; omega
  | ⟨1, _⟩ => show win0_0.index t 1 * 1024 + 1 * r.val = (1 - t.val / 8 % 2) * 1024 + r.val; rw [e1]; omega
  | ⟨2, _⟩ => show win0_0.index t 2 * 768 + 1 * k.val = t.val % 8 * 768 + k.val; rw [e2]; omega

/-- The scales' block of a point, at an index of their array. -/
theorem xblk1 (t : Fin cfg0.N) (r : Fin 1024) (k : Fin 24) :
    xblk V c 1 t (ix3 (0 : Fin 1) r k) = V c main_arg2 (ix3 (bOf t) (tOf t r) k) := by
  unfold xblk
  rw [View.read_apply]
  show V c main_arg2 _ = V c main_arg2 _
  congr 1
  funext a
  apply Fin.ext
  obtain ⟨-, ⟨e0, e1, e2⟩, -⟩ := dx_idx t
  match a with
  | ⟨0, _⟩ => show win0_1.index t 0 * 1 + 1 * 0 = t.val / 16; rw [e0]; omega
  | ⟨1, _⟩ => show win0_1.index t 1 * 1024 + 1 * r.val = (1 - t.val / 8 % 2) * 1024 + r.val; rw [e1]; omega
  | ⟨2, _⟩ => show win0_1.index t 2 * 24 + 1 * k.val = k.val; rw [e2]; omega

/-- The first tap's weight block of a point, at an index of the weight's array. -/
theorem xblk2 (t : Fin cfg0.N) (k : Fin 1536) (q : Fin 768) :
    xblk V c 2 t (ix3 (0 : Fin 1) k q) = V c main_arg3 (ix3 (⟨(pOf t).val, by omega⟩ : Fin 16) k q) := by
  unfold xblk
  rw [View.read_apply]
  show V c main_arg3 _ = V c main_arg3 _
  congr 1
  funext a
  apply Fin.ext
  obtain ⟨-, -, ⟨e0, e1, e2⟩, -⟩ := dx_idx t
  match a with
  | ⟨0, _⟩ => show win0_2.index t 0 * 1 + 1 * 0 = t.val % 8; rw [e0]; omega
  | ⟨1, _⟩ => show win0_2.index t 1 * 1536 + 1 * k.val = k.val; rw [e1]; omega
  | ⟨2, _⟩ => show win0_2.index t 2 * 768 + 1 * q.val = q.val; rw [e2]; omega

/-- The second tap's weight block of a point, at an index of the weight's array. -/
theorem xblk3 (t : Fin cfg0.N) (k : Fin 1536) (q : Fin 768) :
    xblk V c 3 t (ix3 (0 : Fin 1) k q) = V c main_arg3 (ix3 (⟨(pOf t).val + 8, by omega⟩ : Fin 16) k q) := by
  unfold xblk
  rw [View.read_apply]
  show V c main_arg3 _ = V c main_arg3 _
  congr 1
  funext a
  apply Fin.ext
  obtain ⟨-, -, -, ⟨e0, e1, e2⟩, -⟩ := dx_idx t
  match a with
  | ⟨0, _⟩ => show win0_3.index t 0 * 1 + 1 * 0 = t.val % 8 + 8; rw [e0]; omega
  | ⟨1, _⟩ => show win0_3.index t 1 * 1536 + 1 * k.val = k.val; rw [e1]; omega
  | ⟨2, _⟩ => show win0_3.index t 2 * 768 + 1 * q.val = q.val; rw [e2]; omega

/-- The weight scales' block of a point, at an index of their array. -/
theorem xblk4 (t : Fin cfg0.N) (q : Fin 768) :
    xblk V c 4 t (ix2 (0 : Fin 1) q) = V c main_v1 (ix2 (0 : Fin 1) q) := by
  unfold xblk
  rw [View.read_apply]
  show V c main_v1 _ = V c main_v1 _
  congr 1
  funext a
  apply Fin.ext
  obtain ⟨-, -, -, -, ⟨e0, e1⟩, -⟩ := dx_idx t
  match a with
  | ⟨0, _⟩ => show win0_4.index t 0 * 1 + 1 * 0 = 0; rw [e0]
  | ⟨1, _⟩ => show win0_4.index t 1 * 768 + 1 * q.val = q.val; rw [e1]; omega

/-- One phase's addend of the first product. -/
def y0T (B : Fin 4) (T : Fin 2048) (k : Fin 1536) (p : Fin 8) : EReal :=
  ∑ e : Fin 768, gS dy s B T p e * wS w ws (⟨p.val, by omega⟩ : Fin 16) k e
/-- One phase's addend of the second product. -/
def y1T (B : Fin 4) (T : Fin 2048) (k : Fin 1536) (p : Fin 8) : EReal :=
  ∑ e : Fin 768, gS dy s B T p e * wS w ws (⟨p.val + 8, by omega⟩ : Fin 16) k e

variable {V c dy s w ws}
variable (H : DxIn V c dy s w ws)
include H

/-- A point's gradient block, dequantised, is the specification's. -/
theorem gOf_apply (t : Fin cfg0.N) (r : Fin 1024) (k : Fin 768) :
    (gOf V c t (ix2 r k) : EReal) = gS dy s (bOf t) (tOf t r) (pOf t) k := by
  unfold gOf
  rw [pay9_apply, xblk0, xblk1, H.h0, H.h2]
  rfl

/-- One point's addend of the first accumulator. -/
theorem y0_step (t : Fin cfg0.N) (acc : Vec Ideal S1024x1536 .f32) (r : Fin 1024) (k : Fin 1536) :
    (k0_pay4 (F := Ideal) (gOf V c t) (wsOf V c t) acc (xblk V c 2 t) (ix2 r k) : EReal)
      = (acc (ix2 r k) : EReal) + y0T dy s w ws (bOf t) (tOf t r) k (pOf t) := by
  unfold y0T
  rw [pay4_apply]
  refine congrArg ((acc (ix2 r k) : EReal) + ·) (Finset.sum_congr rfl fun q _ => ?_)
  rw [gOf_apply H, wsOf, pay10_eq, xblk2, xblk4, H.h1, H.h3]
  rfl

/-- One point's addend of the second accumulator. -/
theorem y1_step (t : Fin cfg0.N) (acc : Vec Ideal S1024x1536 .f32) (r : Fin 1024) (k : Fin 1536) :
    (k0_pay5 (F := Ideal) (gOf V c t) (wsOf V c t) acc (xblk V c 3 t) (ix2 r k) : EReal)
      = (acc (ix2 r k) : EReal) + y1T dy s w ws (bOf t) (tOf t r) k (pOf t) := by
  unfold y1T
  rw [pay5_apply]
  refine congrArg ((acc (ix2 r k) : EReal) + ·) (Finset.sum_congr rfl fun q _ => ?_)
  rw [gOf_apply H, wsOf, pay10_eq, xblk3, xblk4, H.h1, H.h3]
  rfl

/-- The first accumulator after each point of a row of eight: the sum of the addends so far. -/
theorem y0_run (q : ℕ) (B : Fin 4) (hB : B.val = q / 2) (r : Fin 1024) (T : Fin 2048) (hT : T.val = (1 - q % 2) * 1024 + r.val) (k : Fin 1536) :
    ∀ (j : ℕ) (hj : j < 8) (hn : 8 * q + j < cfg0.N),
      (y0At V c (8 * q + j) hn (ix2 r k) : EReal)
        = ∑ p ∈ Finset.range (j + 1), if h : p < 8 then y0T dy s w ws B T k ⟨p, h⟩ else 0 := by
  have key : ∀ (j : ℕ) (hj : j < 8) (hn : 8 * q + j < cfg0.N),
      bOf ⟨8 * q + j, hn⟩ = B ∧ tOf ⟨8 * q + j, hn⟩ r = T ∧ pOf ⟨8 * q + j, hn⟩ = ⟨j, hj⟩ := fun j hj hn =>
    ⟨Fin.ext (by show (8 * q + j) / 16 = B.val; omega), Fin.ext (by show (1 - (8 * q + j) / 8 % 2) * 1024 + r.val = T.val; rw [hT, show (8 * q + j) / 8 = q by omega]),
      Fin.ext (by show (8 * q + j) % 8 = j; omega)⟩
  intro j
  induction j with
  | zero =>
    intro hj hn
    obtain ⟨e0, e1, e2⟩ := key 0 hj hn
    have h := y0At_first V c ⟨8 * q + 0, hn⟩ (by show (8 * q + 0) % 8 = 0; omega)
    rw [h, y0_step H, pay2_apply, zero_add, Finset.sum_range_one, dif_pos hj, e0, e1, e2]
  | succ j ih =>
    intro hj hn
    obtain ⟨e0, e1, e2⟩ := key (j + 1) hj hn
    have h := y0At_next V c ⟨8 * q + (j + 1), hn⟩ (by show ¬(8 * q + (j + 1)) % 8 = 0; omega)
    rw [h, y0_step H, Finset.sum_range_succ, dif_pos hj, e0, e1, e2]
    exact congrArg (· + _) (ih (by omega) (by omega))

/-- The second accumulator after each point of a row of eight. -/
theorem y1_run (q : ℕ) (B : Fin 4) (hB : B.val = q / 2) (r : Fin 1024) (T : Fin 2048) (hT : T.val = (1 - q % 2) * 1024 + r.val) (k : Fin 1536) :
    ∀ (j : ℕ) (hj : j < 8) (hn : 8 * q + j < cfg0.N),
      (y1At V c (8 * q + j) hn (ix2 r k) : EReal)
        = ∑ p ∈ Finset.range (j + 1), if h : p < 8 then y1T dy s w ws B T k ⟨p, h⟩ else 0 := by
  have key : ∀ (j : ℕ) (hj : j < 8) (hn : 8 * q + j < cfg0.N),
      bOf ⟨8 * q + j, hn⟩ = B ∧ tOf ⟨8 * q + j, hn⟩ r = T ∧ pOf ⟨8 * q + j, hn⟩ = ⟨j, hj⟩ := fun j hj hn =>
    ⟨Fin.ext (by show (8 * q + j) / 16 = B.val; omega), Fin.ext (by show (1 - (8 * q + j) / 8 % 2) * 1024 + r.val = T.val; rw [hT, show (8 * q + j) / 8 = q by omega]),
      Fin.ext (by show (8 * q + j) % 8 = j; omega)⟩
  intro j
  induction j with
  | zero =>
    intro hj hn
    obtain ⟨e0, e1, e2⟩ := key 0 hj hn
    have h := y1At_first V c ⟨8 * q + 0, hn⟩ (by show (8 * q + 0) % 8 = 0; omega)
    rw [h, y1_step H, pay3z_apply, zero_add, Finset.sum_range_one, dif_pos hj, e0, e1, e2]
  | succ j ih =>
    intro hj hn
    obtain ⟨e0, e1, e2⟩ := key (j + 1) hj hn
    have h := y1At_next V c ⟨8 * q + (j + 1), hn⟩ (by show ¬(8 * q + (j + 1)) % 8 = 0; omega)
    rw [h, y1_step H, Finset.sum_range_succ, dif_pos hj, e0, e1, e2]
    exact congrArg (· + _) (ih (by omega) (by omega))

/-- The first accumulator at the end of a row of eight. -/
theorem y0_end (t : Fin cfg0.N) (h7 : t.val % 8 = 7) (r : Fin 1024) (k : Fin 1536) :
    (y0At V c t.val t.isLt (ix2 r k) : EReal) = y0S dy s w ws (bOf t) (tOf t r) k := by
  obtain ⟨n, hn⟩ := t
  obtain ⟨q, rfl⟩ : ∃ q, n = 8 * q + 7 := ⟨n / 8, by have : n % 8 = 7 := h7; omega⟩
  rw [y0_run H q (bOf ⟨_, hn⟩) (by show (8 * q + 7) / 16 = _; omega) r (tOf ⟨_, hn⟩ r)
    (by show (1 - (8 * q + 7) / 8 % 2) * 1024 + r.val = _; rw [show (8 * q + 7) / 8 = q by omega]) k 7 (by omega) hn, Finset.sum_range]
  exact Finset.sum_congr rfl fun p _ => dif_pos p.isLt

/-- The second accumulator at the end of a row of eight. -/
theorem y1_end (t : Fin cfg0.N) (h7 : t.val % 8 = 7) (r : Fin 1024) (k : Fin 1536) :
    (y1At V c t.val t.isLt (ix2 r k) : EReal) = y1S dy s w ws (bOf t) (tOf t r) k := by
  obtain ⟨n, hn⟩ := t
  obtain ⟨q, rfl⟩ : ∃ q, n = 8 * q + 7 := ⟨n / 8, by have : n % 8 = 7 := h7; omega⟩
  rw [y1_run H q (bOf ⟨_, hn⟩) (by show (8 * q + 7) / 16 = _; omega) r (tOf ⟨_, hn⟩ r)
    (by show (1 - (8 * q + 7) / 8 % 2) * 1024 + r.val = _; rw [show (8 * q + 7) / 8 = q by omega]) k 7 (by omega) hn, Finset.sum_range]
  exact Finset.sum_congr rfl fun p _ => dif_pos p.isLt

/-- The block the last point of a row writes is the specification's. -/
theorem dxBlk_apply (t : Fin cfg0.N) (h7 : t.val % 8 = 7) (r : Fin 1024) (k : Fin 1536) :
    (dxBlk V c t (ix3 (0 : Fin 1) r k) : EReal) = dxS dy s w ws (bOf t) (tOf t r) k := by
  have hN := dx_lt t
  unfold dxBlk dxS
  rw [pay7_apply, y0_end H t h7]
  refine congrArg (y0S dy s w ws (bOf t) (tOf t r) k + ·) ?_
  by_cases h : r.val + 1 < 1024
  · have h' : (tOf t r).val + 1 < 2048 := by show (1 - t.val / 8 % 2) * 1024 + r.val + 1 < 2048; omega
    rw [dif_pos h, dif_pos h', y1_end H t h7]
    exact congrArg (fun T => y1S dy s w ws (bOf t) T k) (Fin.ext (by show (1 - t.val / 8 % 2) * 1024 + (r.val + 1) = (1 - t.val / 8 % 2) * 1024 + r.val + 1; omega))
  · rw [dif_neg h]
    have hrow : ∀ x : Vec Ideal S8x1536 .f32, row0 x (ix2 (0 : Fin 1) k) = x (ix2 (0 : Fin 8) k) := by
      intro x
      unfold row0 View.ld
      refine congrArg x (funext fun a => Fin.ext ?_)
      match a with
      | ⟨0, _⟩ => rfl
      | ⟨1, _⟩ => show 0 + 1 * k.val = k.val; omega
    rw [hrow]
    unfold crAt
    by_cases hi : t.val / 8 % 2 = 0
    · have h' : ¬(tOf t r).val + 1 < 2048 := by show ¬(1 - t.val / 8 % 2) * 1024 + r.val + 1 < 2048; omega
      rw [if_pos hi, dif_neg h', pay6_apply]
    · have h' : (tOf t r).val + 1 < 2048 := by show (1 - t.val / 8 % 2) * 1024 + r.val + 1 < 2048; omega
      rw [if_neg hi, dif_pos h', pay8_apply]
      have hlt : t.val - 8 < cfg0.N := Nat.lt_of_le_of_lt (Nat.sub_le _ _) t.isLt
      refine (y1_end H ⟨t.val - 8, hlt⟩ (by show (t.val - 8) % 8 = 7; omega) _ k).trans ?_
      have eb : bOf ⟨t.val - 8, hlt⟩ = bOf t := Fin.ext (by show (t.val - 8) / 16 = t.val / 16; omega)
      rw [eb]
      exact congrArg (fun T => y1S dy s w ws (bOf t) T k) (Fin.ext (by
        show (1 - (t.val - 8) / 8 % 2) * 1024 + 0 = (1 - t.val / 8 % 2) * 1024 + r.val + 1
        omega))

/-- The array the input-gradient kernel leaves is the specification's. -/
theorem dxArr_eq : (datDx V c).arrAt 5 cfg0.N = fun i : S4x2048x1536.Idx => dxS dy s w ws (i 0) (i 1) (i 2) := by
  refine (datDx V c).arrAt_eq_of_cover 5 (fun i : S4x2048x1536.Idx => dxS dy s w ws (i 0) (i 1) (i 2)) (fun t hf => ?_) (fun i => ?_)
  · have h7 : t.val % 8 = 7 := (flush0_5 t).mp hf
    show (cfg0.win 5).cut (grid0.coords t) ((datDx V c).after 5 t) = _
    rw [dxAfter_5]
    obtain ⟨-, -, -, -, -, e0, e1, e2⟩ := dx_idx t
    funext y
    have hy0 : (y 0).val < 1 := (y 0).isLt
    have hy1 : (y 1).val < 1024 := (y 1).isLt
    have hy2 : (y 2).val < 1536 := (y 2).isLt
    rw [View.read_apply]
    show (dxBlk V c t y : EReal) = dxS dy s w ws ((((cfg0.win 5).blk t).view.emb y : S4x2048x1536.Idx) 0) ((((cfg0.win 5).blk t).view.emb y : S4x2048x1536.Idx) 1) ((((cfg0.win 5).blk t).view.emb y : S4x2048x1536.Idx) 2)
    have hy : (y : S1x1024x1536.Idx) = ix3 (0 : Fin 1) (⟨(y 1).val, hy1⟩ : Fin 1024) (⟨(y 2).val, hy2⟩ : Fin 1536) := by
      funext a
      apply Fin.ext
      match a with
      | ⟨0, _⟩ => show (y 0).val = 0; omega
      | ⟨1, _⟩ => rfl
      | ⟨2, _⟩ => rfl
    refine (congrArg (dxBlk V c t) hy).trans ((dxBlk_apply H t h7 _ _).trans ?_)
    have a0 : bOf t = (((cfg0.win 5).blk t).view.emb y : S4x2048x1536.Idx) 0 := Fin.ext (by
      show t.val / 16 = win0_5.index t 0 * 1 + 1 * (y 0).val; rw [e0]; omega)
    have a1 : tOf t (⟨(y 1).val, hy1⟩ : Fin 1024) = (((cfg0.win 5).blk t).view.emb y : S4x2048x1536.Idx) 1 := Fin.ext (by
      show (1 - t.val / 8 % 2) * 1024 + (y 1).val = win0_5.index t 1 * 1024 + 1 * (y 1).val; rw [e1]; omega)
    have a2 : (⟨(y 2).val, hy2⟩ : Fin 1536) = (((cfg0.win 5).blk t).view.emb y : S4x2048x1536.Idx) 2 := Fin.ext (by
      show (y 2).val = win0_5.index t 2 * 1536 + 1 * (y 2).val; rw [e2]; omega)
    rw [a0, a1, a2]
  · have h0 : (i 0).val < 4 := (i 0).isLt
    have h1 : (i 1).val < 2048 := (i 1).isLt
    have h2 : (i 2).val < 1536 := (i 2).isLt
    have hN : cfg0.N = 64 := N_0
    let t : Fin cfg0.N := ⟨((i 0).val * 2 + (1 - (i 1).val / 1024)) * 8 + 7, by omega⟩
    have hv : t.val = ((i 0).val * 2 + (1 - (i 1).val / 1024)) * 8 + 7 := rfl
    obtain ⟨-, -, -, -, -, e0, e1, e2⟩ := dx_idx t
    refine ⟨t, (flush0_5 t).mpr (by omega), ?_⟩
    show i ∈ ((View.whole main_v2).slice (win0_5.rect t)).set
    rw [View.set_slice_whole, Rect.mem_set_unit]
    intro a
    match a with
    | ⟨0, _⟩ => show win0_5.index t 0 * 1 ≤ (i 0).val ∧ (i 0).val < win0_5.index t 0 * 1 + 1; rw [e0]; omega
    | ⟨1, _⟩ => show win0_5.index t 1 * 1024 ≤ (i 1).val ∧ (i 1).val < win0_5.index t 1 * 1024 + 1024; rw [e1]; omega
    | ⟨2, _⟩ => show win0_5.index t 2 * 1536 ≤ (i 2).val ∧ (i 2).val < win0_5.index t 2 * 1536 + 1536; rw [e2]; omega

end Cert.KernelIdeal.Val

end
-- ==== Proof.Value.DwVal.lean ====
module

public import proofs.«01_k».proof.Proof.Value.Pay
public import proofs.«01_k».proof.Proof.KernelIdeal.Dw

@[expose] public section

set_option maxRecDepth 16384

noncomputable section

namespace Cert.KernelIdeal.Val

open Cert.KernelIdeal Cert.KernelIdeal.Gen Cert.KernelIdeal.Pay Cert.Spec Idealize.ShloMosaic Idealize.ShloMosaic.TcCoe Idealize.ShloMosaic.ValueIdx
open Idealize.ShloMosaic.Pipeline (Dat)
open scoped BigOperators

/-- A sum over blocks of equal length is the sum over the whole. -/
theorem sum_blocks {a b N : ℕ} (hN : a * b = N) (f : Fin N → EReal) (h : ∀ (i : Fin a) (j : Fin b), i.val * b + j.val < N) :
    ∑ i : Fin a, ∑ j : Fin b, f ⟨i.val * b + j.val, h i j⟩ = ∑ n : Fin N, f n := by
  subst hN
  rw [← Equiv.sum_comp finProdFinEquiv f, Fintype.sum_prod_type]
  refine Finset.sum_congr rfl fun i _ => Finset.sum_congr rfl fun j _ => congrArg f (Fin.ext ?_)
  show i.val * b + j.val = j.val + b * i.val
  rw [Nat.mul_comm, Nat.add_comm]

variable (V : (c : Dev nD) → (b : Ref sig .tc) → Buf (Elt Ideal) ((c : Thread nD τ).loc b)) (c : Dev nD)
variable (x : A3 4 2048 1536) (dy : A3 4 16384 768) (s : A3 4 2048 24)

/-- The input a slab multiplies a frame's gradient with: the frame's own in the first slab, the previous frame's in
    the second, zero before the first frame. -/
def xsS (σ : Fin 2) (b : Fin 4) (t : Fin 2048) (k : Fin 1536) : EReal :=
  if σ = 0 then x (ix3 b t k) else if t.val = 0 then 0 else x (ix3 b (⟨t.val - 1, by omega⟩ : Fin 2048) k)

/-- The batch entry of a flattened row. -/
def rB (n : Fin 8192) : Fin 4 := ⟨n.val / 2048, by omega⟩
/-- The frame of a flattened row. -/
def rT (n : Fin 8192) : Fin 2048 := ⟨n.val % 2048, by omega⟩

/-- What the weight-gradient kernel finds in its arrays, batch and frame flattened into one row. -/
structure DwIn : Prop where
  h5 : ∀ (n : Fin 8192) (k : Fin 1536), (V c main_v5 (ix2 n k) : EReal) = xsS x 0 (rB n) (rT n) k
  h6 : ∀ (n : Fin 8192) (k : Fin 1536), (V c main_v6 (ix2 n k) : EReal) = xsS x 1 (rB n) (rT n) k
  h7 : ∀ (n : Fin 8192) (p : Fin 8) (q : Fin 768), (V c main_v7 (ix2 n (⟨p.val * 768 + q.val, by omega⟩ : Fin 6144)) : EReal)
    = dy (ix3 (rB n) (⟨(rT n).val * 8 + p.val, by omega⟩ : Fin 16384) q)
  h8 : ∀ (n : Fin 8192) (g : Fin 24), (V c main_v8 (ix2 n g) : EReal) = s (ix3 (rB n) (rT n) g)

/-- Where each window's block sits at a point. -/
theorem dw_idx : ∀ t : Fin cfg1.N,
    (win1_0.index t 0 = t.val % 8 ∧ win1_0.index t 1 = 0)
    ∧ (win1_1.index t 0 = t.val % 8 ∧ win1_1.index t 1 = 0)
    ∧ (win1_2.index t 0 = t.val % 8 ∧ win1_2.index t 1 = t.val / 8)
    ∧ (win1_3.index t 0 = t.val % 8 ∧ win1_3.index t 1 = 0)
    ∧ (win1_4.index t 0 = 0 ∧ win1_4.index t 1 = t.val / 8 ∧ win1_4.index t 2 = 0 ∧ win1_4.index t 3 = 0) :=
  (by decide +kernel : ∀ t : Fin grid1.N,
    (win1_0.index t 0 = t.val % 8 ∧ win1_0.index t 1 = 0)
    ∧ (win1_1.index t 0 = t.val % 8 ∧ win1_1.index t 1 = 0)
    ∧ (win1_2.index t 0 = t.val % 8 ∧ win1_2.index t 1 = t.val / 8)
    ∧ (win1_3.index t 0 = t.val % 8 ∧ win1_3.index t 1 = 0)
    ∧ (win1_4.index t 0 = 0 ∧ win1_4.index t 1 = t.val / 8 ∧ win1_4.index t 2 = 0 ∧ win1_4.index t 3 = 0))

/-- There are 64 points. -/
theorem dw_lt (t : Fin cfg1.N) : t.val < 64 := lt_of_lt_of_eq t.isLt (show cfg1.N = 64 from N_1)

/-- The flattened row a row of a point's block is. -/
def nOf (t : Fin cfg1.N) (r : Fin 1024) : Fin 8192 := ⟨t.val % 8 * 1024 + r.val, by omega⟩
/-- The phase of a point. -/
def qOf (t : Fin cfg1.N) : Fin 8 := ⟨t.val / 8, by have := dw_lt t; omega⟩

/-- The input block of a point, at an index of the input's array. -/
theorem wblk0 (t : Fin cfg1.N) (r : Fin 1024) (k : Fin 1536) : wblk V c 0 t (ix2 r k) = V c main_v5 (ix2 (nOf t r) k) := by
  unfold wblk
  rw [View.read_apply]
  show V c main_v5 _ = V c main_v5 _
  congr 1
  funext a
  apply Fin.ext
  obtain ⟨⟨e0, e1⟩, -⟩ := dw_idx t
  match a with
  | ⟨0, _⟩ => show win1_0.index t 0 * 1024 + 1 * r.val = t.val % 8 * 1024 + r.val; rw [e0]; omega
  | ⟨1, _⟩ => show win1_0.index t 1 * 1536 + 1 * k.val = k.val; rw [e1]; omega

/-- The shifted input's block of a point, at an index of its array. -/
theorem wblk1 (t : Fin cfg1.N) (r : Fin 1024) (k : Fin 1536) : wblk V c 1 t (ix2 r k) = V c main_v6 (ix2 (nOf t r) k) := by
  unfold wblk
  rw [View.read_apply]
  show V c main_v6 _ = V c main_v6 _
  congr 1
  funext a
  apply Fin.ext
  obtain ⟨-, ⟨e0, e1⟩, -⟩ := dw_idx t
  match a with
  | ⟨0, _⟩ => show win1_1.index t 0 * 1024 + 1 * r.val = t.val % 8 * 1024 + r.val; rw [e0]; omega
  | ⟨1, _⟩ => show win1_1.index t 1 * 1536 + 1 * k.val = k.val; rw [e1]; omega

/-- The gradient codes' block of a point, at an index of their array. -/
theorem wblk2 (t : Fin cfg1.N) (r : Fin 1024) (q : Fin 768) :
    wblk V c 2 t (ix2 r q) = V c main_v7 (ix2 (nOf t r) (⟨(qOf t).val * 768 + q.val, by omega⟩ : Fin 6144)) := by
  unfold wblk
  rw [View.read_apply]
  show V c main_v7 _ = V c main_v7 _
  congr 1
  funext a
  apply Fin.ext
  obtain ⟨-, -, ⟨e0, e1⟩, -⟩ := dw_idx t
  match a with
  | ⟨0, _⟩ => show win1_2.index t 0 * 1024 + 1 * r.val = t.val % 8 * 1024 + r.val; rw [e0]; omega
  | ⟨1, _⟩ => show win1_2.index t 1 * 768 + 1 * q.val = t.val / 8 * 768 + q.val; rw [e1]; omega

/-- The scales' block of a point, at an index of their array. -/
theorem wblk3 (t : Fin cfg1.N) (r : Fin 1024) (g : Fin 24) : wblk V c 3 t (ix2 r g) = V c main_v8 (ix2 (nOf t r) g) := by
  unfold wblk
  rw [View.read_apply]
  show V c main_v8 _ = V c main_v8 _
  congr 1
  funext a
  apply Fin.ext
  obtain ⟨-, -, -, ⟨e0, e1⟩, -⟩ := dw_idx t
  match a with
  | ⟨0, _⟩ => show win1_3.index t 0 * 1024 + 1 * r.val = t.val % 8 * 1024 + r.val; rw [e0]; omega
  | ⟨1, _⟩ => show win1_3.index t 1 * 24 + 1 * g.val = g.val; rw [e1]; omega

/-- The first slab of the result block, at an index of the block. -/
theorem dwR0_emb (k : Fin 1536) (q : Fin 768) :
    (dwR0 : Rect S2x1x1536x768).emb (ix4 (0 : Fin 1) (0 : Fin 1) k q) = ix4 (0 : Fin 2) (0 : Fin 1) k q := by
  funext a
  apply Fin.ext
  match a with
  | ⟨0, _⟩ => rfl
  | ⟨1, _⟩ => rfl
  | ⟨2, _⟩ => show 0 + 1 * k.val = k.val; omega
  | ⟨3, _⟩ => show 0 + 1 * q.val = q.val; omega

/-- The second slab of the result block, at an index of the block. -/
theorem dwR1_emb (k : Fin 1536) (q : Fin 768) :
    (dwR1 : Rect S2x1x1536x768).emb (ix4 (0 : Fin 1) (0 : Fin 1) k q) = ix4 (1 : Fin 2) (0 : Fin 1) k q := by
  funext a
  apply Fin.ext
  match a with
  | ⟨0, _⟩ => rfl
  | ⟨1, _⟩ => rfl
  | ⟨2, _⟩ => show 0 + 1 * k.val = k.val; omega
  | ⟨3, _⟩ => show 0 + 1 * q.val = q.val; omega

/-- One step of the first slab at an index. -/
theorem step0_apply (x0 x1 : Vec Ideal S1024x1536 .bf16) (x2 : Vec Ideal S1024x768 .fp8e5m2) (x3 : Vec Ideal S1024x24 .f32) (o : Vec Ideal S2x1x1536x768 .f32)
    (k : Fin 1536) (q : Fin 768) :
    (dwStep x0 x1 x2 x3 o (ix4 (0 : Fin 2) (0 : Fin 1) k q) : EReal)
      = (o (ix4 (0 : Fin 2) (0 : Fin 1) k q) : EReal) + ∑ r : Fin 1024, (x0 (ix2 r k) : EReal) * k1_pay3 (F := Ideal) x2 x3 (ix2 r q) := by
  have hn : (ix4 (0 : Fin 2) (0 : Fin 1) k q : S2x1x1536x768.Idx) ∉ (dwR1 : Rect S2x1x1536x768).set := by
    intro h
    have h1 := (Rect.mem_set_unit.mp h 0).1
    exact absurd (show 1 ≤ 0 from h1) (by omega)
  unfold dwStep
  rw [View.canon_cons_of_not_mem (⟨dwR1, _⟩ : View.Piece (Elt Ideal) S2x1x1536x768 .f32) _ hn, ← dwR0_emb, View.canon_cons_emb]
  refine (dpay1_apply _ _ _ k q).trans ?_
  rfl

/-- One step of the second slab at an index. -/
theorem step1_apply (x0 x1 : Vec Ideal S1024x1536 .bf16) (x2 : Vec Ideal S1024x768 .fp8e5m2) (x3 : Vec Ideal S1024x24 .f32) (o : Vec Ideal S2x1x1536x768 .f32)
    (k : Fin 1536) (q : Fin 768) :
    (dwStep x0 x1 x2 x3 o (ix4 (1 : Fin 2) (0 : Fin 1) k q) : EReal)
      = (o (ix4 (1 : Fin 2) (0 : Fin 1) k q) : EReal) + ∑ r : Fin 1024, (x1 (ix2 r k) : EReal) * k1_pay3 (F := Ideal) x2 x3 (ix2 r q) := by
  unfold dwStep
  rw [← dwR1_emb, View.canon_cons_emb]
  refine (dpay2_apply _ _ _ k q).trans ?_
  rfl

/-- One row's addend of a slab. -/
def rowT (σ : Fin 2) (p : Fin 8) (k : Fin 1536) (q : Fin 768) (n : Fin 8192) : EReal :=
  xsS x σ (rB n) (rT n) k * gS dy s (rB n) (rT n) p q
/-- One block's addend of a slab. -/
def blkT (σ : Fin 2) (p : Fin 8) (k : Fin 1536) (q : Fin 768) (j : Fin 8) : EReal :=
  ∑ r : Fin 1024, rowT x dy s σ p k q ⟨j.val * 1024 + r.val, by omega⟩

variable {V c x dy s}
variable (H : DwIn V c x dy s)
include H

/-- A point's gradient block, dequantised, is the specification's. -/
theorem dg_apply (t : Fin cfg1.N) (r : Fin 1024) (q : Fin 768) :
    (k1_pay3 (F := Ideal) (wblk V c 2 t) (wblk V c 3 t) (ix2 r q) : EReal) = gS dy s (rB (nOf t r)) (rT (nOf t r)) (qOf t) q := by
  rw [pay3_apply, wblk2, wblk3, H.h7, H.h8]
  rfl

/-- One point's step of a slab: its block's addend is added. -/
theorem dw_step (σ : Fin 2) (t : Fin cfg1.N) (o : Vec Ideal S2x1x1536x768 .f32) (k : Fin 1536) (q : Fin 768) :
    (dwStep (wblk V c 0 t) (wblk V c 1 t) (wblk V c 2 t) (wblk V c 3 t) o (ix4 σ (0 : Fin 1) k q) : EReal)
      = (o (ix4 σ (0 : Fin 1) k q) : EReal) + blkT x dy s σ (qOf t) k q ⟨t.val % 8, by omega⟩ := by
  unfold blkT rowT
  match σ with
  | ⟨0, _⟩ =>
    refine (step0_apply _ _ _ _ o k q).trans ?_
    refine congrArg ((o (ix4 (0 : Fin 2) (0 : Fin 1) k q) : EReal) + ·) (Finset.sum_congr rfl fun r _ => ?_)
    rw [dg_apply H, wblk0, H.h5]
    rfl
  | ⟨1, _⟩ =>
    refine (step1_apply _ _ _ _ o k q).trans ?_
    refine congrArg ((o (ix4 (1 : Fin 2) (0 : Fin 1) k q) : EReal) + ·) (Finset.sum_congr rfl fun r _ => ?_)
    rw [dg_apply H, wblk1, H.h6]
    rfl

/-- The block after each point of a row of eight: the sum of the addends so far. -/
theorem dw_run (σ : Fin 2) (p : Fin 8) (k : Fin 1536) (q : Fin 768) :
    ∀ (j : ℕ) (hj : j < 8) (hn : 8 * p.val + j < cfg1.N),
      (dwAt V c (8 * p.val + j) hn (ix4 σ (0 : Fin 1) k q) : EReal)
        = ∑ i ∈ Finset.range (j + 1), if h : i < 8 then blkT x dy s σ p k q ⟨i, h⟩ else 0 := by
  have key : ∀ (j : ℕ) (hj : j < 8) (hn : 8 * p.val + j < cfg1.N),
      qOf ⟨8 * p.val + j, hn⟩ = p ∧ (⟨(8 * p.val + j) % 8, by omega⟩ : Fin 8) = ⟨j, hj⟩ := fun j hj hn =>
    ⟨Fin.ext (by show (8 * p.val + j) / 8 = p.val; omega), Fin.ext (by show (8 * p.val + j) % 8 = j; omega)⟩
  intro j
  induction j with
  | zero =>
    intro hj hn
    obtain ⟨e1, e2⟩ := key 0 hj hn
    have h := dwAt_first V c ⟨8 * p.val + 0, hn⟩ (by show (8 * p.val + 0) % 8 = 0; omega)
    rw [h, dw_step H, pay4z_apply, zero_add, Finset.sum_range_one, dif_pos hj, e1]
    exact congrArg (blkT x dy s σ p k q) e2
  | succ j ih =>
    intro hj hn
    obtain ⟨e1, e2⟩ := key (j + 1) hj hn
    have h := dwAt_next V c ⟨8 * p.val + (j + 1), hn⟩ (by show ¬(8 * p.val + (j + 1)) % 8 = 0; omega)
    rw [h, dw_step H, Finset.sum_range_succ, dif_pos hj, e1]
    exact congrArg₂ (· + ·) (ih (by omega) (by omega)) (congrArg (blkT x dy s σ p k q) e2)

/-- The block at the end of a row of eight: the sum over every row of every batch entry. -/
theorem dw_end (σ : Fin 2) (t : Fin cfg1.N) (h7 : t.val % 8 = 7) (k : Fin 1536) (q : Fin 768) :
    (dwAt V c t.val t.isLt (ix4 σ (0 : Fin 1) k q) : EReal)
      = ∑ b : Fin 4, ∑ T : Fin 2048, xsS x σ b T k * gS dy s b T (qOf t) q := by
  have hN := dw_lt t
  obtain ⟨n, hn⟩ := t
  obtain ⟨p, rfl⟩ : ∃ p, n = 8 * p + 7 := ⟨n / 8, by have : n % 8 = 7 := h7; omega⟩
  have hp : p < 8 := by have : 8 * p + 7 < 64 := hN; omega
  have e : qOf ⟨8 * p + 7, hn⟩ = ⟨p, hp⟩ := Fin.ext (by show (8 * p + 7) / 8 = p; omega)
  rw [e]
  refine (dw_run H σ ⟨p, hp⟩ k q 7 (by omega) hn).trans ?_
  rw [Finset.sum_range]
  have h1 : ∀ i : Fin 8, (if h : i.val < 8 then blkT x dy s σ ⟨p, hp⟩ k q ⟨i.val, h⟩ else 0) = blkT x dy s σ ⟨p, hp⟩ k q i := fun i => dif_pos i.isLt
  refine (Finset.sum_congr rfl fun i _ => h1 i).trans ?_
  unfold blkT
  rw [sum_blocks (a := 8) (b := 1024) (N := 8192) (by norm_num) (rowT x dy s σ ⟨p, hp⟩ k q) (fun i j => by omega),
    ← sum_blocks (a := 4) (b := 2048) (N := 8192) (by norm_num) (rowT x dy s σ ⟨p, hp⟩ k q) (fun i j => by omega)]
  refine Finset.sum_congr rfl fun b _ => Finset.sum_congr rfl fun T _ => ?_
  have eB : rB ⟨b.val * 2048 + T.val, by omega⟩ = b := Fin.ext (by show (b.val * 2048 + T.val) / 2048 = b.val; omega)
  have eT : rT ⟨b.val * 2048 + T.val, by omega⟩ = T := Fin.ext (by show (b.val * 2048 + T.val) % 2048 = T.val; omega)
  unfold rowT
  rw [eB, eT]

omit H in
/-- The first slab's sum is the specification's first weight gradient. -/
theorem slab0 (p : Fin 8) (k : Fin 1536) (q : Fin 768) :
    ∑ b : Fin 4, ∑ T : Fin 2048, xsS x 0 b T k * gS dy s b T p q = dw0S x dy s p k q := rfl

omit H in
/-- The second slab's sum is the specification's second weight gradient: the first frame's addend is zero. -/
theorem slab1 (p : Fin 8) (k : Fin 1536) (q : Fin 768) :
    ∑ b : Fin 4, ∑ T : Fin 2048, xsS x 1 b T k * gS dy s b T p q = dw1S x dy s p k q := by
  unfold dw1S
  refine Finset.sum_congr rfl fun b _ => ?_
  rw [Fin.sum_univ_succ (n := 2047)]
  have h0 : xsS x 1 b (0 : Fin (2047 + 1)) k = 0 := rfl
  rw [h0, zero_mul, zero_add]
  rfl

/-- The specification's weight gradient, slab by slab. -/
def dwG (x : A3 4 2048 1536) (dy : A3 4 16384 768) (s : A3 4 2048 24) (σ : Fin 2) (p : Fin 8) (k : Fin 1536) (q : Fin 768) : EReal :=
  ∑ b : Fin 4, ∑ T : Fin 2048, xsS x σ b T k * gS dy s b T p q

/-- The array the weight-gradient kernel leaves is the specification's. -/
theorem dwArr_eq : (datDw V c).arrAt 4 cfg1.N = fun i : S2x8x1536x768.Idx => dwG x dy s (i 0) (i 1) (i 2) (i 3) := by
  refine (datDw V c).arrAt_eq_of_cover 4 (fun i : S2x8x1536x768.Idx => dwG x dy s (i 0) (i 1) (i 2) (i 3)) (fun t hf => ?_) (fun i => ?_)
  · have h7 : t.val % 8 = 7 := (flush1_4 t).mp hf
    show (cfg1.win 4).cut (grid1.coords t) ((datDw V c).after 4 t) = _
    rw [dwAfter_4]
    obtain ⟨-, -, -, -, e0, e1, e2, e3⟩ := dw_idx t
    funext y
    have hy0 : (y 0).val < 2 := (y 0).isLt
    have hy1 : (y 1).val < 1 := (y 1).isLt
    have hy2 : (y 2).val < 1536 := (y 2).isLt
    have hy3 : (y 3).val < 768 := (y 3).isLt
    rw [View.read_apply]
    show (dwAt V c t.val t.isLt y : EReal) = dwG x dy s ((((cfg1.win 4).blk t).view.emb y : S2x8x1536x768.Idx) 0) ((((cfg1.win 4).blk t).view.emb y : S2x8x1536x768.Idx) 1)
      ((((cfg1.win 4).blk t).view.emb y : S2x8x1536x768.Idx) 2) ((((cfg1.win 4).blk t).view.emb y : S2x8x1536x768.Idx) 3)
    have hy : (y : S2x1x1536x768.Idx) = ix4 (⟨(y 0).val, hy0⟩ : Fin 2) (0 : Fin 1) (⟨(y 2).val, hy2⟩ : Fin 1536) (⟨(y 3).val, hy3⟩ : Fin 768) := by
      funext a
      apply Fin.ext
      match a with
      | ⟨0, _⟩ => rfl
      | ⟨1, _⟩ => show (y 1).val = 0; omega
      | ⟨2, _⟩ => rfl
      | ⟨3, _⟩ => rfl
    refine (congrArg (dwAt V c t.val t.isLt) hy).trans ((dw_end H _ t h7 _ _).trans ?_)
    have a0 : (⟨(y 0).val, hy0⟩ : Fin 2) = (((cfg1.win 4).blk t).view.emb y : S2x8x1536x768.Idx) 0 := Fin.ext (by
      show (y 0).val = win1_4.index t 0 * 2 + 1 * (y 0).val; rw [e0]; omega)
    have a1 : qOf t = (((cfg1.win 4).blk t).view.emb y : S2x8x1536x768.Idx) 1 := Fin.ext (by
      show t.val / 8 = win1_4.index t 1 * 1 + 1 * (y 1).val; rw [e1]; omega)
    have a2 : (⟨(y 2).val, hy2⟩ : Fin 1536) = (((cfg1.win 4).blk t).view.emb y : S2x8x1536x768.Idx) 2 := Fin.ext (by
      show (y 2).val = win1_4.index t 2 * 1536 + 1 * (y 2).val; rw [e2]; omega)
    have a3 : (⟨(y 3).val, hy3⟩ : Fin 768) = (((cfg1.win 4).blk t).view.emb y : S2x8x1536x768.Idx) 3 := Fin.ext (by
      show (y 3).val = win1_4.index t 3 * 768 + 1 * (y 3).val; rw [e3]; omega)
    rw [a0, a1, a2, a3]
    rfl
  · have h0 : (i 0).val < 2 := (i 0).isLt
    have h1 : (i 1).val < 8 := (i 1).isLt
    have h2 : (i 2).val < 1536 := (i 2).isLt
    have h3 : (i 3).val < 768 := (i 3).isLt
    have hN : cfg1.N = 64 := N_1
    let t : Fin cfg1.N := ⟨(i 1).val * 8 + 7, by omega⟩
    have hv : t.val = (i 1).val * 8 + 7 := rfl
    obtain ⟨-, -, -, -, e0, e1, e2, e3⟩ := dw_idx t
    refine ⟨t, (flush1_4 t).mpr (by omega), ?_⟩
    show i ∈ ((View.whole main_v9).slice (win1_4.rect t)).set
    rw [View.set_slice_whole, Rect.mem_set_unit]
    intro a
    match a with
    | ⟨0, _⟩ => show win1_4.index t 0 * 2 ≤ (i 0).val ∧ (i 0).val < win1_4.index t 0 * 2 + 2; rw [e0]; omega
    | ⟨1, _⟩ => show win1_4.index t 1 * 1 ≤ (i 1).val ∧ (i 1).val < win1_4.index t 1 * 1 + 1; rw [e1]; omega
    | ⟨2, _⟩ => show win1_4.index t 2 * 1536 ≤ (i 2).val ∧ (i 2).val < win1_4.index t 2 * 1536 + 1536; rw [e2]; omega
    | ⟨3, _⟩ => show win1_4.index t 3 * 768 ≤ (i 3).val ∧ (i 3).val < win1_4.index t 3 * 768 + 768; rw [e3]; omega

end Cert.KernelIdeal.Val

end
-- ==== Proof.Value.HostVal.lean ====
module

public import proofs.«01_k».proof.Proof.Value.DxVal
public import proofs.«01_k».proof.Proof.Value.DwVal
public import proofs.«01_k».proof.Proof.KernelIdeal.Run
public import Idealize.ShloMosaic.Lib.StableHlo.Run
public import Idealize.ShloMosaic.Lib.KernelVsHost

@[expose] public section

set_option maxRecDepth 16384

noncomputable section

namespace Cert.KernelIdeal.Val

open Cert.KernelIdeal Cert.KernelIdeal.Gen Cert.Spec Idealize.ShloMosaic Idealize.ShloMosaic.TcCoe Idealize.ShloMosaic.ValueIdx Idealize.ShloMosaic.StableHlo
open scoped BigOperators

section Stretches
variable (W : Valuation τ sig (Elt Ideal))

/-- After the first stretch: the gradient's codes, eight samples to a row. -/
theorem h0_v0 : after (hostOps0 (F := Ideal)) W (Proc.devRef .tc main_v0) = shapeCast S4x2048x6144 (W (Proc.devRef .tc main_arg1)) shapeCasts_S4x16384x768_S4x2048x6144 := by
  after_results_simp <;> rfl
/-- After the first stretch: the weight scales as one row. -/
theorem h0_v1 : after (hostOps0 (F := Ideal)) W (Proc.devRef .tc main_v1) = shapeCast S1x768 (W (Proc.devRef .tc main_arg4)) shapeCasts_S768_S1x768 := by
  after_results_simp <;> rfl
/-- After the second stretch: the input without its last frame. -/
theorem h1_v3 : after (hostOps1 (F := Ideal)) W (Proc.devRef .tc main_v3)
    = extractStridedSlice S4x2047x1536 ![0, 0, 0] (W (Proc.devRef .tc main_arg0)) slices_S4x2048x1536_S4x2047x1536_0_0_0 := by
  after_results_simp <;> rfl
/-- After the second stretch: the integer zero. -/
theorem h1_c : after (hostOps1 (F := Ideal)) W (Proc.devRef .tc main_c) = constantI S_ 32 0#32 := by
  after_results_simp <;> rfl
/-- After the third stretch: the input without its last frame, padded in front by the converted zero. -/
theorem h11_v4 : after (hostOps1_1 (F := Ideal)) W (Proc.devRef .tc main_v4)
    = pad S4x2048x1536 ![0, 1, 0] ![0, 0, 0] ![0, 0, 0] (W (Proc.devRef .tc main_v3)) (sitofp (F := Ideal) .bf16 (W (Proc.devRef .tc main_c)))
        pads_S4x2047x1536_S4x2048x1536_000_100_000 h_S_ := by
  after_results_simp <;> rfl
/-- After the fourth stretch: the input, batch and frame flattened. -/
theorem h12_v5 : after (hostOps1_2 (F := Ideal)) W (Proc.devRef .tc main_v5) = shapeCast S8192x1536 (W (Proc.devRef .tc main_arg0)) shapeCasts_S4x2048x1536_S8192x1536 := by
  after_results_simp <;> rfl
/-- After the fourth stretch: the shifted input, batch and frame flattened. -/
theorem h12_v6 : after (hostOps1_2 (F := Ideal)) W (Proc.devRef .tc main_v6) = shapeCast S8192x1536 (W (Proc.devRef .tc main_v4)) shapeCasts_S4x2048x1536_S8192x1536 := by
  after_results_simp <;> rfl
/-- After the fourth stretch: the gradient's codes, batch and frame flattened. -/
theorem h12_v7 : after (hostOps1_2 (F := Ideal)) W (Proc.devRef .tc main_v7) = shapeCast S8192x6144 (W (Proc.devRef .tc main_v0)) shapeCasts_S4x2048x6144_S8192x6144 := by
  after_results_simp <;> rfl
/-- After the fourth stretch: the scales, batch and frame flattened. -/
theorem h12_v8 : after (hostOps1_2 (F := Ideal)) W (Proc.devRef .tc main_v8) = shapeCast S8192x24 (W (Proc.devRef .tc main_arg2)) shapeCasts_S4x2048x24_S8192x24 := by
  after_results_simp <;> rfl
/-- After the last stretch: the weight gradient with slab and phase flattened. -/
theorem h2_v10 : after (hostOps2 (F := Ideal)) W (Proc.devRef .tc main_v10) = shapeCast S16x1536x768 (W (Proc.devRef .tc main_v9)) shapeCasts_S2x8x1536x768_S16x1536x768 := by
  after_results_simp <;> rfl

end Stretches

variable (m : (ℓ : Loc nD τ sig) → Buf (Elt Ideal) ℓ) (outs : Outs (F := Ideal)) (c : Dev nD)

/-- The padded, shifted input at an index: the previous frame's, zero before the first. -/
theorem xp_apply (x : A3 4 2048 1536) (b : Fin 4) (t : Fin 2048) (k : Fin 1536) :
    (pad S4x2048x1536 ![0, 1, 0] ![0, 0, 0] ![0, 0, 0] (extractStridedSlice (s := S4x2048x1536) S4x2047x1536 ![0, 0, 0] (x : Vec Ideal S4x2048x1536 .bf16) slices_S4x2048x1536_S4x2047x1536_0_0_0)
      (sitofp (F := Ideal) .bf16 (constantI S_ 32 0#32)) pads_S4x2047x1536_S4x2048x1536_000_100_000 h_S_ (ix3 b t k) : EReal) = xsS x 1 b t k := by
  by_cases h : t.val = 0
  · refine (pad_apply_of_not_inside (s := S4x2047x1536) (t := S4x2048x1536) ![0, 1, 0] ![0, 0, 0] ![0, 0, 0] _ _ _ _ (ix3 b t k) (⟨1, by decide⟩ : Fin 3) (fun hh => by
      have h1 : 1 ≤ t.val := hh.1
      omega)).trans ?_
    unfold xsS
    rw [if_neg (by decide), if_pos h]
    show (((0#32 : BitVec 32).toInt : ℝ) : EReal) = 0
    simp
  · rw [pad_apply_of_inside _ _ _ _ _ _ _ _ (ix3 b (⟨t.val - 1, by omega⟩ : Fin 2047) k) (fun a => match a with
      | ⟨0, _⟩ => by show b.val = 0 + b.val * (0 + 1); omega
      | ⟨1, _⟩ => by show t.val = 1 + (t.val - 1) * (0 + 1); omega
      | ⟨2, _⟩ => by show k.val = 0 + k.val * (0 + 1); omega)]
    rw [extractStridedSlice_apply _ _ _ _ (ix3 b (⟨t.val - 1, by omega⟩ : Fin 2048) k) (fun a => match a with
      | ⟨0, _⟩ => (Nat.zero_add _).symm
      | ⟨1, _⟩ => (Nat.zero_add _).symm
      | ⟨2, _⟩ => (Nat.zero_add _).symm)]
    unfold xsS
    rw [if_neg (by decide), if_neg h]

/-- The first region finds the gradient's codes, eight samples to a row. -/
theorem V1_v0 : V1 m c main_v0 = shapeCast S4x2048x6144 (m ((c.tc : Thread nD τ).loc main_arg1)) shapeCasts_S4x16384x768_S4x2048x6144 := h0_v0 _
/-- The first region finds the weight scales as one row. -/
theorem V1_v1 : V1 m c main_v1 = shapeCast S1x768 (m ((c.tc : Thread nD τ).loc main_arg4)) shapeCasts_S768_S1x768 := h0_v1 _

/-- The first region leaves the input as launched. -/
theorem V2_arg0 : V2 m outs c main_arg0 = m ((c.tc : Thread nD τ).loc main_arg0) :=
  (V2_of m outs c main_arg0 (by decide)).trans <| (V1_of m c main_arg0 (by decide)).trans rfl
/-- The third stretch leaves the input as launched. -/
theorem V4_arg0 : V4 m outs c main_arg0 = m ((c.tc : Thread nD τ).loc main_arg0) :=
  (V4_of m outs c main_arg0 (by decide)).trans <| (V3_of m outs c main_arg0 (by decide)).trans <| V2_arg0 m outs c
/-- The third stretch leaves the scales as launched. -/
theorem V4_arg2 : V4 m outs c main_arg2 = m ((c.tc : Thread nD τ).loc main_arg2) :=
  (V4_of m outs c main_arg2 (by decide)).trans <| (V3_of m outs c main_arg2 (by decide)).trans <| (V2_of m outs c main_arg2 (by decide)).trans <|
    (V1_of m c main_arg2 (by decide)).trans rfl
/-- The third stretch leaves the gradient's codes as the first stretch made them. -/
theorem V4_v0 : V4 m outs c main_v0 = shapeCast S4x2048x6144 (m ((c.tc : Thread nD τ).loc main_arg1)) shapeCasts_S4x16384x768_S4x2048x6144 :=
  (V4_of m outs c main_v0 (by decide)).trans <| (V3_of m outs c main_v0 (by decide)).trans <| (V2_of m outs c main_v0 (by decide)).trans <| V1_v0 m c
/-- After the third stretch the shifted input is a pad of a slice of the launched input. -/
theorem V4_v4 : V4 m outs c main_v4
    = pad S4x2048x1536 ![0, 1, 0] ![0, 0, 0] ![0, 0, 0] (extractStridedSlice (s := S4x2048x1536) S4x2047x1536 ![0, 0, 0] (m ((c.tc : Thread nD τ).loc main_arg0)) slices_S4x2048x1536_S4x2047x1536_0_0_0)
      (sitofp (F := Ideal) .bf16 (constantI S_ 32 0#32)) pads_S4x2047x1536_S4x2048x1536_000_100_000 h_S_ := by
  have e3 : V3 m outs c main_v3 = extractStridedSlice (s := S4x2048x1536) S4x2047x1536 ![0, 0, 0] (m ((c.tc : Thread nD τ).loc main_arg0)) slices_S4x2048x1536_S4x2047x1536_0_0_0 := by
    rw [← V2_arg0 m outs c]; exact h1_v3 _
  have ec : V3 m outs c main_c = constantI S_ 32 0#32 := h1_c _
  rw [← e3, ← ec]
  exact h11_v4 _

/-- The codes of the gradient, three axes flattened into two frames' rows, at an index. -/
theorem dy_apply (dy : A3 4 16384 768) (b : Fin 4) (t : Fin 2048) (p : Fin 8) (k : Fin 768) :
    (shapeCast S4x2048x6144 (dy : Vec Ideal S4x16384x768 .fp8e5m2) shapeCasts_S4x16384x768_S4x2048x6144 (ix3 b t (⟨p.val * 768 + k.val, by omega⟩ : Fin 6144)) : EReal)
      = dy (ix3 b (⟨t.val * 8 + p.val, by omega⟩ : Fin 16384) k) := by
  rw [shapeCast_apply _ _ _ (ix3 b (⟨t.val * 8 + p.val, by omega⟩ : Fin 16384) k) (by
    rw [Shape.rowMajor_val_three, Shape.rowMajor_val_three]
    show (b.val * 16384 + (t.val * 8 + p.val)) * 768 + k.val = (b.val * 2048 + t.val) * 6144 + (p.val * 768 + k.val)
    omega)]

/-- What the first kernel finds in its arrays. -/
theorem dxIn : DxIn (VDx m) c (m ((c.tc : Thread nD τ).loc main_arg1)) (m ((c.tc : Thread nD τ).loc main_arg2))
    (m ((c.tc : Thread nD τ).loc main_arg3)) (m ((c.tc : Thread nD τ).loc main_arg4)) where
  h0 b t p k := by
    show V1 m c main_v0 _ = _
    rw [V1_v0]
    exact dy_apply _ b t p k
  h1 k := by
    show V1 m c main_v1 _ = _
    rw [V1_v1, shapeCast_apply _ _ _ (ix1 k) (by
      rw [Shape.rowMajor_val_one, Shape.rowMajor_val_two]
      show k.val = 0 * 768 + k.val
      omega)]
  h2 := (V1_of m c main_arg2 (by decide)).trans rfl
  h3 := (V1_of m c main_arg3 (by decide)).trans rfl

/-- What the second kernel finds in its arrays. -/
theorem dwIn : DwIn (VDw m) c (m ((c.tc : Thread nD τ).loc main_arg0)) (m ((c.tc : Thread nD τ).loc main_arg1)) (m ((c.tc : Thread nD τ).loc main_arg2)) where
  h5 n k := by
    have e : V5 m (outsA m) c main_v5 = shapeCast S8192x1536 (m ((c.tc : Thread nD τ).loc main_arg0)) shapeCasts_S4x2048x1536_S8192x1536 := by
      rw [← V4_arg0 m (outsA m) c]; exact h12_v5 _
    show V5 m (outsA m) c main_v5 _ = _
    rw [e, shapeCast_apply _ _ _ (ix3 (rB n) (rT n) k) (by
      rw [Shape.rowMajor_val_three, Shape.rowMajor_val_two]
      show (n.val / 2048 * 2048 + n.val % 2048) * 1536 + k.val = n.val * 1536 + k.val
      omega)]
    rfl
  h6 n k := by
    have e : V5 m (outsA m) c main_v6 = shapeCast S8192x1536 (V4 m (outsA m) c main_v4) shapeCasts_S4x2048x1536_S8192x1536 := h12_v6 _
    show V5 m (outsA m) c main_v6 _ = _
    rw [e, shapeCast_apply _ _ _ (ix3 (rB n) (rT n) k) (by
      rw [Shape.rowMajor_val_three, Shape.rowMajor_val_two]
      show (n.val / 2048 * 2048 + n.val % 2048) * 1536 + k.val = n.val * 1536 + k.val
      omega), V4_v4]
    exact xp_apply _ _ _ _
  h7 n p q := by
    have e : V5 m (outsA m) c main_v7 = shapeCast S8192x6144 (V4 m (outsA m) c main_v0) shapeCasts_S4x2048x6144_S8192x6144 := h12_v7 _
    show V5 m (outsA m) c main_v7 _ = _
    rw [e, shapeCast_apply _ _ _ (ix3 (rB n) (rT n) (⟨p.val * 768 + q.val, by omega⟩ : Fin 6144)) (by
      rw [Shape.rowMajor_val_three, Shape.rowMajor_val_two]
      show (n.val / 2048 * 2048 + n.val % 2048) * 6144 + (p.val * 768 + q.val) = n.val * 6144 + (p.val * 768 + q.val)
      omega), V4_v0]
    exact dy_apply _ _ _ p q
  h8 n g := by
    have e : V5 m (outsA m) c main_v8 = shapeCast S8192x24 (m ((c.tc : Thread nD τ).loc main_arg2)) shapeCasts_S4x2048x24_S8192x24 := by
      rw [← V4_arg2 m (outsA m) c]; exact h12_v8 _
    show V5 m (outsA m) c main_v8 _ = _
    rw [e, shapeCast_apply _ _ _ (ix3 (rB n) (rT n) g) (by
      rw [Shape.rowMajor_val_three, Shape.rowMajor_val_two]
      show (n.val / 2048 * 2048 + n.val % 2048) * 24 + g.val = n.val * 24 + g.val
      omega)]

/-- The first result at the end of the run is the specification's. -/
theorem res0 (b : Fin 4) (t : Fin 2048) (k : Fin 1536) :
    (V7 m (outsF m) c main_v2 (ix3 b t k) : EReal) = dxS (m ((c.tc : Thread nD τ).loc main_arg1)) (m ((c.tc : Thread nD τ).loc main_arg2))
      (m ((c.tc : Thread nD τ).loc main_arg3)) (m ((c.tc : Thread nD τ).loc main_arg4)) b t k := by
  have e : V7 m (outsF m) c main_v2 = dxFinal m c :=
    (V7_of m _ c main_v2 (by decide)).trans <| (V6_of m _ c main_v2 (by decide)).trans <| (V5_of m _ c main_v2 (by decide)).trans <|
      (V4_of m _ c main_v2 (by decide)).trans <| (V3_of m _ c main_v2 (by decide)).trans <| V2_dx m c
  rw [e]
  unfold dxFinal
  exact congrFun (dxArr_eq (dxIn m c)) (ix3 b t k)

/-- The second result at the end of the run is the specification's, slab by slab. -/
theorem res1 (σ : Fin 2) (p : Fin 8) (k : Fin 1536) (q : Fin 768) :
    (V7 m (outsF m) c main_v10 (ix3 (⟨σ.val * 8 + p.val, by omega⟩ : Fin 16) k q) : EReal)
      = dwG (m ((c.tc : Thread nD τ).loc main_arg0)) (m ((c.tc : Thread nD τ).loc main_arg1)) (m ((c.tc : Thread nD τ).loc main_arg2)) σ p k q := by
  have e : V7 m (outsF m) c main_v10 = shapeCast S16x1536x768 (dwFinal m c) shapeCasts_S2x8x1536x768_S16x1536x768 := by
    rw [← V6_dw m c]; exact h2_v10 _
  rw [e, shapeCast_apply _ _ _ (ix4 σ p k q) (by
    rw [Shape.rowMajor_val_four, Shape.rowMajor_val_three]
    show ((σ.val * 8 + p.val) * 1536 + k.val) * 768 + q.val = ((σ.val * 8 + p.val) * 1536 + k.val) * 768 + q.val
    rfl)]
  unfold dwFinal
  exact congrFun (dwArr_eq (dwIn m c)) (ix4 σ p k q)

end Cert.KernelIdeal.Val

end
-- ==== Proof.Value.KernelRun.lean ====
module

public import proofs.«01_k».proof.Proof.KernelIdeal.Run
public import proofs.«01_k».proof.Proof.Gen.KernelIdeal.Regions
public import Idealize.ShloMosaic.Lib.Pipeline.RegionsLoop
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (outs : Outs (F := F))

set_option backward.isDefEq.respectTransparency.types false in
/-- Given a segment record for each region, every weakly fair execution of @main ends with both results at the last
    valuation and each argument as launched. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      r.2.mem ((c.tc : Thread nD τ).loc main_v2) = V7 m outs c main_v2
      ∧ r.2.mem ((c.tc : Thread nD τ).loc main_v10) = V7 m outs c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, .rfl, .rfl, hpre1 c, hpost1 c, sep_mono .rfl (hE2 c)⟩)
    (hinit := ?_) (QY := fun c s => s.mem ((c.tc : Thread nD τ).loc main_v2) = V7 m outs c main_v2 ∧ s.mem ((c.tc : Thread nD τ).loc main_v10) = V7 m outs c main_v10 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h _ => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v2) (Finset.mem_filter.mpr ⟨StableHlo.devRef_mem_tcRefs main_v2, by decide⟩),
        h (Proc.devRef .tc main_v10) (Finset.mem_filter.mpr ⟨StableHlo.devRef_mem_tcRefs main_v10, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c),
        (h (Proc.devRef .tc main_arg4) (Finset.mem_filter.mpr ⟨StableHlo.devRef_mem_tcRefs main_arg4, by decide⟩)).trans (V7_main_arg4 m outs c)⟩
    · iexact HSI

/-- @main's run: its results are what the last valuation holds, its arguments are as launched. -/
theorem valueF (ρ : Dev nD → PrngReg) : θ_run defs (onTc (τ := τ) (main (F := F))) ⟨m, fun _ => 0, ρ⟩ (fun r => ∀ c : Dev nD,
      r.2.mem ((c.tc : Thread nD τ).loc main_v2) = V7 m (outsF m) c main_v2
      ∧ r.2.mem ((c.tc : Thread nD τ).loc main_v10) = V7 m (outsF m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  value_cond m (outsF m) emb₁ () Variants.none Lz lvz (fun _ _ => rfl) ρ (pdats m) 0 (fun _ => iprop(emp)) u₀
    (by
      unfold u₀
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro) (fun _ c => Rz c)
    (Pipeline.initEach Lz lvz fun c => by
      iintro ⟨⟨-, HO, -, Hg, -⟩, -⟩
      imodintro
      isplitl [HO]; · iexists ∅; iexact HO
      iexists _; iexact Hg) (fun c => by iintro ⟨HO, -⟩; iexact HO)
    (regDx m) (fun _ => .rfl) (fun _ => .rfl) (regDw m) (fun _ => .rfl) (fun _ => .rfl)

end Cert.KernelIdeal.Gen

end
-- ==== Proof.Value.Algebraic.lean ====
module

public import proofs.«01_k».proof.Defs
public import proofs.«01_k».proof.Proof.Value.RefRun
public import proofs.«01_k».proof.Proof.Value.HostVal
public import proofs.«01_k».proof.Proof.Value.KernelRun

@[expose] public section

set_option maxRecDepth 16384

noncomputable section

namespace Cert.Algebraic

open Cert.Spec Idealize.ShloMosaic Idealize.ShloMosaic.TcCoe Idealize.ShloMosaic.ValueIdx Idealize.SL.Sem

/-- An array of rank three is determined by its entries at the triples. -/
theorem ext3 {a b c : ℕ} (f g : A3 a b c) (h : ∀ i j k, f (ix3 i j k) = g (ix3 i j k)) : f = g := by
  funext i
  have hi : i = ix3 (i 0 : Fin a) (i 1 : Fin b) (i 2 : Fin c) := by
    funext d
    match d with
    | ⟨0, _⟩ => rfl
    | ⟨1, _⟩ => rfl
    | ⟨2, _⟩ => rfl
  rw [hi]
  exact h _ _ _

variable (m : (ℓ : Loc KernelIdeal.nD KernelIdeal.τ KernelIdeal.sig) → Buf (Elt Ideal) ℓ) (c : Dev KernelIdeal.nD)

/-- The kernel's argument arrays. -/
abbrev ax : A3 4 2048 1536 := m ((c.tc : Thread KernelIdeal.nD KernelIdeal.τ).loc KernelIdeal.main_arg0)
abbrev ady : A3 4 16384 768 := m ((c.tc : Thread KernelIdeal.nD KernelIdeal.τ).loc KernelIdeal.main_arg1)
abbrev asc : A3 4 2048 24 := m ((c.tc : Thread KernelIdeal.nD KernelIdeal.τ).loc KernelIdeal.main_arg2)
abbrev aw : A3 16 1536 768 := m ((c.tc : Thread KernelIdeal.nD KernelIdeal.τ).loc KernelIdeal.main_arg3)
abbrev aws : A1 768 := m ((c.tc : Thread KernelIdeal.nD KernelIdeal.τ).loc KernelIdeal.main_arg4)

/-- The kernel's first result is the reference's. -/
theorem res0_eq : ReferenceIdeal.Read.val_main_v22 (F := Ideal) (asc m c) (aws m c) (ady m c) (aw m c)
    = (KernelIdeal.Gen.V7 m (KernelIdeal.Gen.outsF m) c KernelIdeal.main_v2 : A3 4 2048 1536) :=
  ext3 _ _ fun b t k => (RefVal.dx_apply _ _ _ _ b t k).trans (KernelIdeal.Val.res0 m c b t k).symm

/-- The kernel's second result is the reference's. -/
theorem res1_eq : ReferenceIdeal.Read.val_main_v30 (F := Ideal) (ax m c) (asc m c) (ady m c)
    = (KernelIdeal.Gen.V7 m (KernelIdeal.Gen.outsF m) c KernelIdeal.main_v10 : A3 16 1536 768) := by
  refine ext3 _ _ fun p k q => ?_
  by_cases h : p.val < 8
  · have h0 := KernelIdeal.Val.res1 m c (0 : Fin 2) (⟨p.val, h⟩ : Fin 8) k q
    have e : (⟨(0 : Fin 2).val * 8 + p.val, by show 0 * 8 + p.val < 16; omega⟩ : Fin 16) = p := Fin.ext (by show 0 * 8 + p.val = p.val; omega)
    have h1 := RefVal.dw0_apply (ax m c) (asc m c) (ady m c) (⟨p.val, h⟩ : Fin 8) k q
    refine h1.trans (((KernelIdeal.Val.slab0 _ k q).symm).trans (h0.symm.trans ?_))
    exact congrArg (fun z : Fin 16 => (KernelIdeal.Gen.V7 m (KernelIdeal.Gen.outsF m) c KernelIdeal.main_v10 : A3 16 1536 768) (ix3 z k q)) e
  · have hex : ∃ r : Fin 8, p = (⟨r.val + 8, Nat.add_lt_add_right r.isLt 8⟩ : Fin 16) := ⟨⟨p.val - 8, by omega⟩, Fin.ext (by show p.val = p.val - 8 + 8; omega)⟩
    obtain ⟨r, rfl⟩ := hex
    have h0 := KernelIdeal.Val.res1 m c (1 : Fin 2) r k q
    have e : (⟨(1 : Fin 2).val * 8 + r.val, by show 1 * 8 + r.val < 16; omega⟩ : Fin 16) = ⟨r.val + 8, by omega⟩ := Fin.ext (by show 1 * 8 + r.val = r.val + 8; omega)
    have h1 := RefVal.dw1_apply (ax m c) (asc m c) (ady m c) r k q
    refine h1.trans (((KernelIdeal.Val.slab1 _ k q).symm).trans (h0.symm.trans ?_))
    exact congrArg (fun z : Fin 16 => (KernelIdeal.Gen.V7 m (KernelIdeal.Gen.outsF m) c KernelIdeal.main_v10 : A3 16 1536 768) (ix3 z k q)) e

/-- The idealized kernel and the reference, from equal arguments, end with equal results. -/
theorem algebraic : algebraic_KernelIdeal_ReferenceIdeal (hKernelIdeal := KernelIdeal.Gen.facts) (hReferenceIdeal := ReferenceIdeal.Gen.facts) := by
  intro m g m' g' _ hargs
  refine ⟨fun c => KernelIdeal.Gen.V7 m (KernelIdeal.Gen.outsF m) c KernelIdeal.main_v2,
    fun c => KernelIdeal.Gen.V7 m (KernelIdeal.Gen.outsF m) c KernelIdeal.main_v10, KernelIdeal.Gen.valueF m g,
    (θ_run ReferenceIdeal.defs _ _).mono (fun _ h c => ⟨?_, ?_, (h c).2.2⟩) (RefVal.ref_run m' g')⟩
  · refine (h c).1.trans ?_
    obtain ⟨e0, e1, e2, e3, e4⟩ := hargs c
    rw [e1, e2, e3, e4]
    exact res0_eq m c
  · refine (h c).2.1.trans ?_
    obtain ⟨e0, e1, e2, e3, e4⟩ := hargs c
    rw [e0, e1, e2]
    exact res1_eq m c

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Gen.frameF m g,
  fun m g _ => Cert.KernelIdeal.Gen.frameF m g,
  fun m g _ => Cert.ReferenceIdeal.Gen.frame m g, trivial, Cert.Algebraic.algebraic⟩

end Cert.Proof

end
